-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite [hPre_finite : Cert.Pre_finite.Facts] (m : (ℓ : Loc Cert.OutIdeal.nD Cert.OutIdeal.τ Cert.OutIdeal.sig) → Buf (Elt Ideal) ℓ) : Prop :=
  ∀ c : Dev Cert.OutIdeal.nD,
    (Cert.Pre_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite [hPre_finite : Cert.Pre_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutIdeal_pre_finite [hOutIdeal : Cert.OutIdeal.Facts] [hPre_finite : Cert.Pre_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_OutReferenceIdeal_pre_finite [hOutReferenceIdeal : Cert.OutReferenceIdeal.Facts] [hPre_finite : Cert.Pre_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Out_OutIdeal : Prop :=
  True

def algebraic_OutIdeal_OutReferenceIdeal_pre_finite [hOutIdeal : Cert.OutIdeal.Facts] [hOutReferenceIdeal : Cert.OutReferenceIdeal.Facts] [hPre_finite : Cert.Pre_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal_finite m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v57)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v57) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutReferenceIdeal : Cert.OutReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Out (hOut := hOut)
    ∧ quiescent_OutIdeal (hOutIdeal := hOutIdeal)
    ∧ quiescent_OutIdeal_pre_finite (hOutIdeal := hOutIdeal) (hPre_finite := hPre_finite)
    ∧ quiescent_OutReferenceIdeal (hOutReferenceIdeal := hOutReferenceIdeal)
    ∧ quiescent_OutReferenceIdeal_pre_finite (hOutReferenceIdeal := hOutReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Out_OutIdeal
    ∧ algebraic_OutIdeal_OutReferenceIdeal_pre_finite (hOutIdeal := hOutIdeal) (hOutReferenceIdeal := hOutReferenceIdeal) (hPre_finite := hPre_finite)
-- ==== Pre_finite.lean ====
abbrev S3x4096x3584 : Shape := ⟨3, ![3, 4096, 3584]⟩
abbrev S3x32x28 : Shape := ⟨3, ![3, 32, 28]⟩
abbrev S4096 : Shape := ⟨1, ![4096]⟩
abbrev S64x64 : Shape := ⟨2, ![64, 64]⟩
abbrev S128x128 : Shape := ⟨2, ![128, 128]⟩
abbrev S_ : Shape := ⟨0, ![]⟩

class Facts : Prop where
  bcast_S_S3x4096x3584 : S_.BroadcastsInDim S3x4096x3584 (![] : Fin 0 → Fin S3x4096x3584.rank)
  reducesTo_S3x4096x3584_S_d0_1_2 : S3x4096x3584.ReducesTo [0, 1, 2] S_
  h_S_ : 0 < S_.numel
  bcast_S_S3x32x28 : S_.BroadcastsInDim S3x32x28 (![] : Fin 0 → Fin S3x32x28.rank)
  reducesTo_S3x32x28_S_d0_1_2 : S3x32x28.ReducesTo [0, 1, 2] S_
  bcast_S_S4096 : S_.BroadcastsInDim S4096 (![] : Fin 0 → Fin S4096.rank)
  reducesTo_S4096_S_d0 : S4096.ReducesTo [0] S_
  bitsLt_bf16_f32 : FTy.bits .bf16 < FTy.bits .f32
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v15 : FVec F S64x64 .f32) (main_v16 : FVec F S64x64 .f32) : IVec S_ 1 :=
  let main_v17 : IVec S64x64 1 := cmpf .olt main_v15 main_v16
  let main_c_5 : IVec S_ 1 := constantI S_ 1 1#1
  let main_v18 : IVec S_ 1 := (fun x v => Host.reduce IntOp.andi x v reducesTo_S64x64_S_d0_1 h_S_) main_v17 main_c_5
  let main_v19 : IVec S_ 1 := andi main_v13 main_v18
  main_v19

def fn {F : FTy → Type} [FloatOps F] (main_arg0 : FVec F S3x4096x3584 .f32) (main_arg1 : FVec F S3x32x28 .f32) (main_arg2 : FVec F S4096 .f32) (main_arg3 : FVec F S64x64 .bf16) (main_arg4 : FVec F S64x64 .bf16) (main_arg5 : FVec F S128x128 .bf16) : IVec S_ 1 :=
  let main_v0 : FVec F S3x4096x3584 .f32 := Host.absf main_arg0
  let main_cst : FVec F S_ .f32 := constant S_ .f32 0x7F800000#32
  let main_v1 : FVec F S3x4096x3584 .f32 := broadcastInDim S3x4096x3584 ![] bcast_S_S3x4096x3584 main_cst
  let main_v2 : IVec S3x4096x3584 1 := cmpf .olt main_v0 main_v1
  let main_c : IVec S_ 1 := constantI S_ 1 1#1
  let main_v3 : IVec S_ 1 := (fun x v => Host.reduce IntOp.andi x v reducesTo_S3x4096x3584_S_d0_1_2 h_S_) main_v2 main_c
  let main_v4 : FVec F S3x32x28 .f32 := Host.absf main_arg1
  let main_cst_0 : FVec F S_ .f32 := constant S_ .f32 0x7F800000#32
  let main_v5 : FVec F S3x32x28 .f32 := broadcastInDim S3x32x28 ![] bcast_S_S3x32x28 main_cst_0
  let main_v6 : IVec S3x32x28 1 := cmpf .olt main_v4 main_v5
  let main_c_1 : IVec S_ 1 := constantI S_ 1 1#1
  let main_v7 : IVec S_ 1 := (fun x v => Host.reduce IntOp.andi x v reducesTo_S3x32x28_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := (extf .f32 · bitsLt_bf16_f32) main_arg4
  let main_v15 : FVec F S64x64 .f32 := Host.absf main_v14
  let main_cst_4 : FVec F S_ .f32 := constant S_ .f32 0x7F800000#32
  let main_v16 : FVec F S64x64 .f32 := broadcastInDim S64x64 ![] bcast_S_S64x64 main_cst_4
  fn_part1 (F := F) main_v13 main_v15 main_v16
-- ==== Kernel.lean ====
abbrev S3x3584x4096 : Shape := ⟨3, ![3, 3584, 4096]⟩
abbrev S3x28x32 : Shape := ⟨3, ![3, 28, 32]⟩
abbrev S3x4096 : Shape := ⟨2, ![3, 4096]⟩
abbrev S4096 : Shape := ⟨1, ![4096]⟩
abbrev S64x64 : Shape := ⟨2, ![64, 64]⟩
abbrev S128x128 : Shape := ⟨2, ![128, 128]⟩
abbrev S3x3584 : Shape := ⟨2, ![3, 3584]⟩
abbrev S1x4096 : Shape := ⟨2, ![1, 4096]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8x8 : Shape := ⟨2, ![8, 8]⟩
abbrev S64x1x64x1 : Shape := ⟨4, ![64, 1, 64, 1]⟩
abbrev S1x8x1x8 : Shape := ⟨4, ![1, 8, 1, 8]⟩
abbrev S64x8x64x8 : Shape := ⟨4, ![64, 8, 64, 8]⟩
abbrev S512x512 : Shape := ⟨2, ![512, 512]⟩
abbrev S2x2 : Shape := ⟨2, ![2, 2]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S3x28x32x128 : Shape := ⟨4, ![3, 28, 32, 128]⟩
abbrev S3x28x4096 : Shape := ⟨3, ![3, 28, 4096]⟩
abbrev S3x14x2x4096 : Shape := ⟨4, ![3, 14, 2, 4096]⟩
abbrev S3x1x4096 : Shape := ⟨3, ![3, 1, 4096]⟩
abbrev S3x1x3584 : Shape := ⟨3, ![3, 1, 3584]⟩
abbrev S3x8x3584 : Shape := ⟨3, ![3, 8, 3584]⟩
abbrev S1x256x4096 : Shape := ⟨3, ![1, 256, 4096]⟩
abbrev S1x1x2x4096 : Shape := ⟨4, ![1, 1, 2, 4096]⟩
abbrev S1x1x4096 : Shape := ⟨3, ![1, 1, 4096]⟩
abbrev S1x1x256 : Shape := ⟨3, ![1, 1, 256]⟩
abbrev S1x8x256 : Shape := ⟨3, ![1, 8, 256]⟩
abbrev S64x64x256 : Shape := ⟨3, ![64, 64, 256]⟩
abbrev S4096x256 : Shape := ⟨2, ![4096, 256]⟩
abbrev S1x1x1x256 : Shape := ⟨4, ![1, 1, 1, 256]⟩
abbrev S1x256 : Shape := ⟨2, ![1, 256]⟩
abbrev S1x128x256 : Shape := ⟨3, ![1, 128, 256]⟩
abbrev S128x256 : Shape := ⟨2, ![128, 256]⟩
abbrev S4x64x256 : Shape := ⟨3, ![4, 64, 256]⟩
abbrev S8x256 : Shape := ⟨2, ![8, 256]⟩
abbrev S64x8x256 : Shape := ⟨3, ![64, 8, 256]⟩
abbrev S512x256 : Shape := ⟨2, ![512, 256]⟩
abbrev S256 : Shape := ⟨1, ![256]⟩
abbrev S1x128 : Shape := ⟨2, ![1, 128]⟩
abbrev S8x128 : Shape := ⟨2, ![8, 128]⟩
abbrev S32x128 : Shape := ⟨2, ![32, 128]⟩
abbrev S4x8x128 : Shape := ⟨3, ![4, 8, 128]⟩
abbrev S1x8x128 : Shape := ⟨3, ![1, 8, 128]⟩
abbrev S128 : Shape := ⟨1, ![128]⟩
abbrev S1x1x128 : Shape := ⟨3, ![1, 1, 128]⟩
abbrev S256x128 : Shape := ⟨2, ![256, 128]⟩
abbrev S1x256x128 : Shape := ⟨3, ![1, 256, 128]⟩

abbrev nBuf : Space → Nat
  | .hbm => 69
  | .vmem => 20
  | .smem => 0
  | _ => 0

abbrev bufTy : (tb : Table) → Fin (tcTables nBuf tb) → BufTy
  | .hbm, ⟨0, _⟩ => ⟨S3x3584x4096, .fp8e4m3⟩
  | .hbm, ⟨1, _⟩ => ⟨S3x28x32, .f32⟩
  | .hbm, ⟨2, _⟩ => ⟨S3x4096, .f32⟩
  | .hbm, ⟨3, _⟩ => ⟨S4096, .f32⟩
  | .hbm, ⟨4, _⟩ => ⟨S64x64, .bf16⟩
  | .hbm, ⟨5, _⟩ => ⟨S64x64, .bf16⟩
  | .hbm, ⟨6, _⟩ => ⟨S128x128, .bf16⟩
  | .hbm, ⟨7, _⟩ => ⟨S3x3584, .i32⟩
  | .hbm, ⟨8, _⟩ => ⟨S1x4096, .f32⟩
  | .hbm, ⟨9, _⟩ => ⟨S3x4096, .f32⟩
  | .hbm, ⟨10, _⟩ => ⟨S3x4096, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S64x64, .bf16⟩
  | .hbm, ⟨19, _⟩ => ⟨S64x64, .f32⟩
  | .hbm, ⟨20, _⟩ => ⟨S4x1x4x1, .f32⟩
  | .hbm, ⟨21, _⟩ => ⟨S1x64x1x64, .f32⟩
  | .hbm, ⟨22, _⟩ => ⟨S4x64x4x64, .f32⟩
  | .hbm, ⟨23, _⟩ => ⟨S4x64x4x64, .f32⟩
  | .hbm, ⟨24, _⟩ => ⟨S4x64x4x64, .f32⟩
  | .hbm, ⟨25, _⟩ => ⟨S256x256, .f32⟩
  | .hbm, ⟨26, _⟩ => ⟨S256x256, .bf16⟩
  | .hbm, ⟨27, _⟩ => ⟨S64x64, .bf16⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S64x1x64x1, .f32⟩
  | .hbm, ⟨40, _⟩ => ⟨S1x8x1x8, .f32⟩
  | .hbm, ⟨41, _⟩ => ⟨S64x8x64x8, .f32⟩
  | .hbm, ⟨42, _⟩ => ⟨S64x8x64x8, .f32⟩
  | .hbm, ⟨43, _⟩ => ⟨S64x8x64x8, .f32⟩
  | .hbm, ⟨44, _⟩ => ⟨S512x512, .f32⟩
  | .hbm, ⟨45, _⟩ => ⟨S512x512, .bf16⟩
  | .hbm, ⟨46, _⟩ => ⟨S2x2, .i32⟩
  | .hbm, ⟨47, _⟩ => ⟨S2x2, .i32⟩
  | .hbm, ⟨48, _⟩ => ⟨S_, .i32⟩
  | .hbm, ⟨49, _⟩ => ⟨S2x2, .i32⟩
  | .hbm, ⟨50, _⟩ => ⟨S2x2, .i32⟩
  | .hbm, ⟨51, _⟩ => ⟨S2x2, .i1⟩
  | .hbm, ⟨52, _⟩ => ⟨S2x2, .f32⟩
  | .hbm, ⟨53, _⟩ => ⟨S128x128, .f32⟩
  | .hbm, ⟨54, _⟩ => ⟨S2x1x2x1, .f32⟩
  | .hbm, ⟨55, _⟩ => ⟨S1x128x1x128, .f32⟩
  | .hbm, ⟨56, _⟩ => ⟨S2x128x2x128, .f32⟩
  | .hbm, ⟨57, _⟩ => ⟨S2x128x2x128, .f32⟩
  | .hbm, ⟨58, _⟩ => ⟨S2x128x2x128, .f32⟩
  | .hbm, ⟨59, _⟩ => ⟨S256x256, .f32⟩
  | .hbm, ⟨60, _⟩ => ⟨S256x256, .bf16⟩
  | .hbm, ⟨61, _⟩ => ⟨S3x28x32x128, .f32⟩
  | .hbm, ⟨62, _⟩ => ⟨S3x28x4096, .f32⟩
  | .hbm, ⟨63, _⟩ => ⟨S3x14x2x4096, .f32⟩
  | .hbm, ⟨64, _⟩ => ⟨S3x1x4096, .f32⟩
  | .hbm, ⟨65, _⟩ => ⟨S3x1x3584, .i32⟩
  | .hbm, ⟨66, _⟩ => ⟨S3x3584x4096, .fp8e4m3⟩
  | .hbm, ⟨67, _⟩ => ⟨S3x1x3584, .f32⟩
  | .hbm, ⟨68, _⟩ => ⟨S3x8x3584, .f32⟩
  | .local _ .vmem, ⟨0, _⟩ => ⟨S1x256x4096, .fp8e4m3⟩
  | .local _ .vmem, ⟨1, _⟩ => ⟨S1x256x4096, .fp8e4m3⟩
  | .local _ .vmem, ⟨2, _⟩ => ⟨S1x1x2x4096, .f32⟩
  | .local _ .vmem, ⟨3, _⟩ => ⟨S1x1x2x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x256, .bf16⟩
  | .local _ .vmem, ⟨7, _⟩ => ⟨S512x512, .bf16⟩
  | .local _ .vmem, ⟨8, _⟩ => ⟨S256x256, .bf16⟩
  | .local _ .vmem, ⟨9, _⟩ => ⟨S1x1x256, .i32⟩
  | .local _ .vmem, ⟨10, _⟩ => ⟨S1x1x256, .i32⟩
  | .local _ .vmem, ⟨11, _⟩ => ⟨S1x256x4096, .fp8e4m3⟩
  | .local _ .vmem, ⟨12, _⟩ => ⟨S1x256x4096, .fp8e4m3⟩
  | .local _ .vmem, ⟨13, _⟩ => ⟨S1x1x256, .f32⟩
  | .local _ .vmem, ⟨14, _⟩ => ⟨S1x1x256, .f32⟩
  | .local _ .vmem, ⟨15, _⟩ => ⟨S1x8x256, .f32⟩
  | .local _ .vmem, ⟨16, _⟩ => ⟨S1x8x256, .f32⟩
  | .local _ .vmem, ⟨17, _⟩ => ⟨S64x64x256, .f32⟩
  | .local _ .vmem, ⟨18, _⟩ => ⟨S64x64x256, .f32⟩
  | .local _ .vmem, ⟨19, _⟩ => ⟨S4096x256, .fp8e4m3⟩
  | _, _ => ⟨S3x3584x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54_0 : Ref sig .tc := ⟨.hbm, 66, rfl⟩
abbrev main_v54_1 : Ref sig .tc := ⟨.hbm, 67, rfl⟩
abbrev main_v54_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![3, 14], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v397 : BitVec 32 := Scalar.muli arg15 c256_i32
  v397
def k0_off1 (k0_t1 : Fin k0_t1_loop.trips) : Fin 4 → Nat :=
  let c0_149 : Index := 0#32
  let c0_150 : Index := 0#32
  let c0_151 : Index := 0#32
  let c0_i32 : BitVec 32 := 0#32
  let c1_i32 : BitVec 32 := 1#32
  let arg15 : BitVec 32 := Scf.iv c0_i32 c1_i32 k0_t1
  let c256_i32 : BitVec 32 := 256#32
  let v397 : BitVec 32 := Scalar.muli arg15 c256_i32
  let v398 : BitVec 32 := v397
  let v399 : Index := Scalar.indexCast v398
  ![0, 0, 0, v399.toNat]
def k0_off2 (k0_t1 : Fin k0_t1_loop.trips) : Fin 3 → Nat :=
  let c0_152 : Index := 0#32
  let c0_153 : Index := 0#32
  let c0_i32 : BitVec 32 := 0#32
  let c1_i32 : BitVec 32 := 1#32
  let arg15 : BitVec 32 := Scf.iv c0_i32 c1_i32 k0_t1
  let c256_i32 : BitVec 32 := 256#32
  let v397 : BitVec 32 := Scalar.muli arg15 c256_i32
  let v398 : BitVec 32 := v397
  let v402 : Index := Scalar.indexCast v398
  ![0, 0, v402.toNat]
def k0_off3 (k0_t1 : Fin k0_t1_loop.trips) : Fin 3 → Nat :=
  let c0_154 : Index := 0#32
  let c0_155 : Index := 0#32
  let c0_i32 : BitVec 32 := 0#32
  let c1_i32 : BitVec 32 := 1#32
  let arg15 : BitVec 32 := Scf.iv c0_i32 c1_i32 k0_t1
  let c256_i32 : BitVec 32 := 256#32
  let v397 : BitVec 32 := Scalar.muli arg15 c256_i32
  let v398 : BitVec 32 := v397
  let v406 : Index := Scalar.indexCast v398
  ![0, 0, v406.toNat]
def k0_off4 (k0_t1 : Fin k0_t1_loop.trips) : Fin 4 → Nat :=
  let c0_156 : Index := 0#32
  let c0_157 : Index := 0#32
  let c1_158 : Index := 1#32
  let c0_i32 : BitVec 32 := 0#32
  let c1_i32 : BitVec 32 := 1#32
  let arg15 : BitVec 32 := Scf.iv c0_i32 c1_i32 k0_t1
  let c256_i32 : BitVec 32 := 256#32
  let v397 : BitVec 32 := Scalar.muli arg15 c256_i32
  let v398 : BitVec 32 := v397
  let v413 : Index := Scalar.indexCast v398
  ![0, 0, 1, v413.toNat]
def k0_off5 (k0_t1 : Fin k0_t1_loop.trips) : Fin 3 → Nat :=
  let c0_161 : Index := 0#32
  let c128_162 : Index := 128#32
  let c0_i32 : BitVec 32 := 0#32
  let c1_i32 : BitVec 32 := 1#32
  let arg15 : BitVec 32 := Scf.iv c0_i32 c1_i32 k0_t1
  let c256_i32 : BitVec 32 := 256#32
  let v397 : BitVec 32 := Scalar.muli arg15 c256_i32
  let v398 : BitVec 32 := v397
  let v420 : Index := Scalar.indexCast v398
  ![0, 128, v420.toNat]
def k0_off6 (k0_t1 : Fin k0_t1_loop.trips) : Fin 3 → Nat :=
  let c0_i32 : BitVec 32 := 0#32
  let c1_i32 : BitVec 32 := 1#32
  let arg15 : BitVec 32 := Scf.iv c0_i32 c1_i32 k0_t1
  let c4_i32_166 : BitVec 32 := 4#32
  let v432 : BitVec 32 := Scalar.muli arg15 c4_i32_166
  let v433 : Index := Scalar.indexCast v432
  let c0_167 : Index := 0#32
  let c0_168 : Index := 0#32
  ![v433.toNat, 0, 0]
@[reducible] def k0_t2_loop : Scf.Loop 32 :=
  let c0_i32_1 : BitVec 32 := 0#32
  let c8_i32 : BitVec 32 := 8#32
  let v2 : BitVec 32 := Scalar.addi c0_i32_1 c8_i32
  let c1_i32_2 : BitVec 32 := 1#32
  ⟨c0_i32_1, v2, c1_i32_2⟩
def k0_mult2 (k0_t2 : Fin k0_t2_loop.trips) : BitVec 32 :=
  let c0_i32_1 : BitVec 32 := 0#32
  let c1_i32_2 : BitVec 32 := 1#32
  let arg15 : BitVec 32 := Scf.iv c0_i32_1 c1_i32_2 k0_t2
  let c8_i32_149 : BitVec 32 := 8#32
  let v397 : BitVec 32 := Scalar.muli arg15 c8_i32_149
  v397
def k0_off7 (k0_t2 : Fin k0_t2_loop.trips) : Fin 3 → Nat :=
  let c0_152 : Index := 0#32
  let c0_i32_1 : BitVec 32 := 0#32
  let c1_i32_2 : BitVec 32 := 1#32
  let arg15 : BitVec 32 := Scf.iv c0_i32_1 c1_i32_2 k0_t2
  let c8_i32_149 : BitVec 32 := 8#32
  let v397 : BitVec 32 := Scalar.muli arg15 c8_i32_149
  let v398 : BitVec 32 := v397
  let v401 : Index := Scalar.indexCast v398
  let c0_153 : Index := 0#32
  ![0, v401.toNat, 0]
@[reducible] def k0_t3_loop : Scf.Loop 32 :=
  let c0_i32_67 : BitVec 32 := 0#32
  let c128_i32 : BitVec 32 := 128#32
  let v188 : BitVec 32 := Scalar.addi c0_i32_67 c128_i32
  let c1_i32_68 : BitVec 32 := 1#32
  ⟨c0_i32_67, v188, c1_i32_68⟩
def k0_mult3 (k0_t3 : Fin k0_t3_loop.trips) : BitVec 32 :=
  let c0_i32_67 : BitVec 32 := 0#32
  let c1_i32_68 : BitVec 32 := 1#32
  let arg15 : BitVec 32 := Scf.iv c0_i32_67 c1_i32_68 k0_t3
  let c32_i32_149 : BitVec 32 := 32#32
  let v397 : BitVec 32 := Scalar.muli arg15 c32_i32_149
  v397
def k0_off8 (k0_t3 : Fin k0_t3_loop.trips) : Fin 2 → Nat :=
  let c0_i32_67 : BitVec 32 := 0#32
  let c1_i32_68 : BitVec 32 := 1#32
  let arg15 : BitVec 32 := Scf.iv c0_i32_67 c1_i32_68 k0_t3
  let c32_i32_149 : BitVec 32 := 32#32
  let v397 : BitVec 32 := Scalar.muli arg15 c32_i32_149
  let v398 : BitVec 32 := v397
  let v400 : Index := Scalar.indexCast v398
  let c0_150 : Index := 0#32
  ![v400.toNat, 0]
@[reducible] def k0_t4_loop : Scf.Loop 32 :=
  let c0_i32_111 : BitVec 32 := 0#32
  let c128_i32_112 : BitVec 32 := 128#32
  let v330 : BitVec 32 := Scalar.addi c0_i32_111 c128_i32_112
  let c1_i32_113 : BitVec 32 := 1#32
  ⟨c0_i32_111, v330, c1_i32_113⟩
def k0_mult4 (k0_t4 : Fin k0_t4_loop.trips) : BitVec 32 :=
  let c0_i32_111 : BitVec 32 := 0#32
  let c1_i32_113 : BitVec 32 := 1#32
  let arg15 : BitVec 32 := Scf.iv c0_i32_111 c1_i32_113 k0_t4
  let c32_i32_149 : BitVec 32 := 32#32
  let v397 : BitVec 32 := Scalar.muli arg15 c32_i32_149
  v397
def k0_off9 (k0_t4 : Fin k0_t4_loop.trips) : Fin 2 → Nat :=
  let c0_i32_111 : BitVec 32 := 0#32
  let c1_i32_113 : BitVec 32 := 1#32
  let arg15 : BitVec 32 := Scf.iv c0_i32_111 c1_i32_113 k0_t4
  let c32_i32_149 : BitVec 32 := 32#32
  let v397 : BitVec 32 := Scalar.muli arg15 c32_i32_149
  let v398 : BitVec 32 := v397
  let v400 : Index := Scalar.indexCast v398
  let c128_150 : Index := 128#32
  ![v400.toNat, 128]
@[reducible] def k0_t5_loop : Scf.Loop 32 :=
  let c0_i32_146 : BitVec 32 := 0#32
  let c32_i32 : BitVec 32 := 32#32
  let v396 : BitVec 32 := Scalar.addi c0_i32_146 c32_i32
  let c1_i32_147 : BitVec 32 := 1#32
  ⟨c0_i32_146, v396, c1_i32_147⟩
def k0_mult5 (k0_t5 : Fin k0_t5_loop.trips) : BitVec 32 :=
  let c0_i32_146 : BitVec 32 := 0#32
  let c1_i32_147 : BitVec 32 := 1#32
  let arg15 : BitVec 32 := Scf.iv c0_i32_146 c1_i32_147 k0_t5
  let c128_i32_149 : BitVec 32 := 128#32
  let v397 : BitVec 32 := Scalar.muli arg15 c128_i32_149
  v397
def k0_off10 (k0_t5 : Fin k0_t5_loop.trips) : Fin 2 → Nat :=
  let c0_i32_146 : BitVec 32 := 0#32
  let c1_i32_147 : BitVec 32 := 1#32
  let arg15 : BitVec 32 := Scf.iv c0_i32_146 c1_i32_147 k0_t5
  let c128_i32_149 : BitVec 32 := 128#32
  let v397 : BitVec 32 := Scalar.muli arg15 c128_i32_149
  let v398 : BitVec 32 := v397
  let v399 : Index := Scalar.indexCast v398
  let c0_150 : Index := 0#32
  ![v399.toNat, 0]
def k0_off11 (k0_t5 : Fin k0_t5_loop.trips) : Fin 3 → Nat :=
  let c0_151 : Index := 0#32
  let c0_152 : Index := 0#32
  let c0_i32_146 : BitVec 32 := 0#32
  let c1_i32_147 : BitVec 32 := 1#32
  let arg15 : BitVec 32 := Scf.iv c0_i32_146 c1_i32_147 k0_t5
  let c128_i32_149 : BitVec 32 := 128#32
  let v397 : BitVec 32 := Scalar.muli arg15 c128_i32_149
  let v398 : BitVec 32 := v397
  let v402 : Index := Scalar.indexCast v398
  ![0, 0, v402.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S3x3584x4096 : Shape := ⟨3, ![3, 3584, 4096]⟩
abbrev S3x28x32 : Shape := ⟨3, ![3, 28, 32]⟩
abbrev S3x4096 : Shape := ⟨2, ![3, 4096]⟩
abbrev S4096 : Shape := ⟨1, ![4096]⟩
abbrev S64x64 : Shape := ⟨2, ![64, 64]⟩
abbrev S128x128 : Shape := ⟨2, ![128, 128]⟩
abbrev S3x3584 : Shape := ⟨2, ![3, 3584]⟩
abbrev S3x1x3584 : Shape := ⟨3, ![3, 1, 3584]⟩
abbrev S3x8x3584 : Shape := ⟨3, ![3, 8, 3584]⟩
abbrev S3x28x128x32x128 : Shape := ⟨5, ![3, 28, 128, 32, 128]⟩
abbrev S3x28x1x32x1 : Shape := ⟨5, ![3, 28, 1, 32, 1]⟩
abbrev S1x4096 : Shape := ⟨2, ![1, 4096]⟩
abbrev S3x1x4096 : Shape := ⟨3, ![3, 1, 4096]⟩
abbrev S3x3584x64x64 : Shape := ⟨4, ![3, 3584, 64, 64]⟩
abbrev S64x3x3584x64 : Shape := ⟨4, ![64, 3, 3584, 64]⟩
abbrev S3x3584x1 : Shape := ⟨3, ![3, 3584, 1]⟩

abbrev nBuf : Space → Nat
  | .hbm => 11
  | .vmem => 10
  | .smem => 0
  | _ => 0

abbrev bufTy : (tb : Table) → Fin (tcTables nBuf tb) → BufTy
  | .hbm, ⟨0, _⟩ => ⟨S3x3584x4096, .fp8e4m3⟩
  | .hbm, ⟨1, _⟩ => ⟨S3x28x32, .f32⟩
  | .hbm, ⟨2, _⟩ => ⟨S3x4096, .f32⟩
  | .hbm, ⟨3, _⟩ => ⟨S4096, .f32⟩
  | .hbm, ⟨4, _⟩ => ⟨S64x64, .bf16⟩
  | .hbm, ⟨5, _⟩ => ⟨S64x64, .bf16⟩
  | .hbm, ⟨6, _⟩ => ⟨S128x128, .bf16⟩
  | .hbm, ⟨7, _⟩ => ⟨S3x3584, .i32⟩
  | .hbm, ⟨8, _⟩ => ⟨S3x3584x4096, .fp8e4m3⟩
  | .hbm, ⟨9, _⟩ => ⟨S3x1x3584, .f32⟩
  | .hbm, ⟨10, _⟩ => ⟨S3x8x3584, .f32⟩
  | .local _ .vmem, ⟨0, _⟩ => ⟨S3x3584x4096, .fp8e4m3⟩
  | .local _ .vmem, ⟨1, _⟩ => ⟨S3x28x32, .f32⟩
  | .local _ .vmem, ⟨2, _⟩ => ⟨S3x4096, .f32⟩
  | .local _ .vmem, ⟨3, _⟩ => ⟨S4096, .f32⟩
  | .local _ .vmem, ⟨4, _⟩ => ⟨S64x64, .bf16⟩
  | .local _ .vmem, ⟨5, _⟩ => ⟨S64x64, .bf16⟩
  | .local _ .vmem, ⟨6, _⟩ => ⟨S3x3584, .i32⟩
  | .local _ .vmem, ⟨7, _⟩ => ⟨S3x3584x4096, .fp8e4m3⟩
  | .local _ .vmem, ⟨8, _⟩ => ⟨S3x1x3584, .f32⟩
  | .local _ .vmem, ⟨9, _⟩ => ⟨S3x8x3584, .f32⟩
  | _, _ => ⟨S3x3584x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x3584x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x28x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x3584 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x3584x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Out.lean ====
abbrev S3x4096x3584 : Shape := ⟨3, ![3, 4096, 3584]⟩
abbrev S3x32x28 : Shape := ⟨3, ![3, 32, 28]⟩
abbrev S4096 : Shape := ⟨1, ![4096]⟩
abbrev S64x64 : Shape := ⟨2, ![64, 64]⟩
abbrev S128x128 : Shape := ⟨2, ![128, 128]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8x8 : Shape := ⟨2, ![8, 8]⟩
abbrev S64x1x64x1 : Shape := ⟨4, ![64, 1, 64, 1]⟩
abbrev S1x8x1x8 : Shape := ⟨4, ![1, 8, 1, 8]⟩
abbrev S64x8x64x8 : Shape := ⟨4, ![64, 8, 64, 8]⟩
abbrev S512x512 : Shape := ⟨2, ![512, 512]⟩
abbrev S1x256x256 : Shape := ⟨3, ![1, 256, 256]⟩
abbrev S16x1x256 : Shape := ⟨3, ![16, 1, 256]⟩
abbrev S16x256x256 : Shape := ⟨3, ![16, 256, 256]⟩
abbrev S4096x256 : Shape := ⟨2, ![4096, 256]⟩
abbrev S2x2 : Shape := ⟨2, ![2, 2]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S3x32x28x128 : Shape := ⟨4, ![3, 32, 28, 128]⟩
abbrev S3x32x3584 : Shape := ⟨3, ![3, 32, 3584]⟩
abbrev S3x64x64x3584 : Shape := ⟨4, ![3, 64, 64, 3584]⟩
abbrev S1x4096x256 : Shape := ⟨3, ![1, 4096, 256]⟩
abbrev S1x32x256 : Shape := ⟨3, ![1, 32, 256]⟩
abbrev S1x64x64x256 : Shape := ⟨4, ![1, 64, 64, 256]⟩
abbrev S64x64x256 : Shape := ⟨3, ![64, 64, 256]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S4x64x256 : Shape := ⟨3, ![4, 64, 256]⟩
abbrev S64x8x256 : Shape := ⟨3, ![64, 8, 256]⟩
abbrev S512x256 : Shape := ⟨2, ![512, 256]⟩
abbrev S64x16x256 : Shape := ⟨3, ![64, 16, 256]⟩
abbrev S1x64x16x256 : Shape := ⟨4, ![1, 64, 16, 256]⟩

abbrev nBuf : Space → Nat
  | .hbm => 68
  | .vmem => 10
  | .smem => 0
  | _ => 0

abbrev bufTy : (tb : Table) → Fin (tcTables nBuf tb) → BufTy
  | .hbm, ⟨0, _⟩ => ⟨S3x4096x3584, .f32⟩
  | .hbm, ⟨1, _⟩ => ⟨S3x32x28, .f32⟩
  | .hbm, ⟨2, _⟩ => ⟨S4096, .f32⟩
  | .hbm, ⟨3, _⟩ => ⟨S64x64, .bf16⟩
  | .hbm, ⟨4, _⟩ => ⟨S64x64, .bf16⟩
  | .hbm, ⟨5, _⟩ => ⟨S128x128, .bf16⟩
  | .hbm, ⟨6, _⟩ => ⟨S3x4096x3584, .fp8e4m3⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S64x64, .bf16⟩
  | .hbm, ⟨15, _⟩ => ⟨S64x64, .f32⟩
  | .hbm, ⟨16, _⟩ => ⟨S4x1x4x1, .f32⟩
  | .hbm, ⟨17, _⟩ => ⟨S1x64x1x64, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S64x64, .bf16⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S64x1x64x1, .f32⟩
  | .hbm, ⟨36, _⟩ => ⟨S1x8x1x8, .f32⟩
  | .hbm, ⟨37, _⟩ => ⟨S64x8x64x8, .f32⟩
  | .hbm, ⟨38, _⟩ => ⟨S64x8x64x8, .f32⟩
  | .hbm, ⟨39, _⟩ => ⟨S64x8x64x8, .f32⟩
  | .hbm, ⟨40, _⟩ => ⟨S512x512, .f32⟩
  | .hbm, ⟨41, _⟩ => ⟨S512x512, .bf16⟩
  | .hbm, ⟨42, _⟩ => ⟨S1x256x256, .bf16⟩
  | .hbm, ⟨43, _⟩ => ⟨S1x256x256, .f32⟩
  | .hbm, ⟨44, _⟩ => ⟨S16x1x256, .f32⟩
  | .hbm, ⟨45, _⟩ => ⟨S16x256x256, .f32⟩
  | .hbm, ⟨46, _⟩ => ⟨S16x256x256, .f32⟩
  | .hbm, ⟨47, _⟩ => ⟨S16x256x256, .f32⟩
  | .hbm, ⟨48, _⟩ => ⟨S16x256x256, .bf16⟩
  | .hbm, ⟨49, _⟩ => ⟨S4096x256, .bf16⟩
  | .hbm, ⟨50, _⟩ => ⟨S2x2, .i32⟩
  | .hbm, ⟨51, _⟩ => ⟨S2x2, .i32⟩
  | .hbm, ⟨52, _⟩ => ⟨S_, .i32⟩
  | .hbm, ⟨53, _⟩ => ⟨S2x2, .i32⟩
  | .hbm, ⟨54, _⟩ => ⟨S2x2, .i32⟩
  | .hbm, ⟨55, _⟩ => ⟨S2x2, .i1⟩
  | .hbm, ⟨56, _⟩ => ⟨S2x2, .f32⟩
  | .hbm, ⟨57, _⟩ => ⟨S128x128, .f32⟩
  | .hbm, ⟨58, _⟩ => ⟨S2x1x2x1, .f32⟩
  | .hbm, ⟨59, _⟩ => ⟨S1x128x1x128, .f32⟩
  | .hbm, ⟨60, _⟩ => ⟨S2x128x2x128, .f32⟩
  | .hbm, ⟨61, _⟩ => ⟨S2x128x2x128, .f32⟩
  | .hbm, ⟨62, _⟩ => ⟨S2x128x2x128, .f32⟩
  | .hbm, ⟨63, _⟩ => ⟨S256x256, .f32⟩
  | .hbm, ⟨64, _⟩ => ⟨S256x256, .bf16⟩
  | .hbm, ⟨65, _⟩ => ⟨S3x32x28x128, .f32⟩
  | .hbm, ⟨66, _⟩ => ⟨S3x32x3584, .f32⟩
  | .hbm, ⟨67, _⟩ => ⟨S3x64x64x3584, .bf16⟩
  | .local _ .vmem, ⟨0, _⟩ => ⟨S1x4096x256, .fp8e4m3⟩
  | .local _ .vmem, ⟨1, _⟩ => ⟨S1x4096x256, .fp8e4m3⟩
  | .local _ .vmem, ⟨2, _⟩ => ⟨S1x32x256, .f32⟩
  | .local _ .vmem, ⟨3, _⟩ => ⟨S1x32x256, .f32⟩
  | .local _ .vmem, ⟨4, _⟩ => ⟨S4096x256, .bf16⟩
  | .local _ .vmem, ⟨5, _⟩ => ⟨S512x512, .bf16⟩
  | .local _ .vmem, ⟨6, _⟩ => ⟨S256x256, .bf16⟩
  | .local _ .vmem, ⟨7, _⟩ => ⟨S1x64x64x256, .bf16⟩
  | .local _ .vmem, ⟨8, _⟩ => ⟨S1x64x64x256, .bf16⟩
  | .local _ .vmem, ⟨9, _⟩ => ⟨S64x64x256, .f32⟩
  | _, _ => ⟨S3x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_1 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![3, 14], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v2 : BitVec 32 := Scalar.muli arg9 c256_i32
  v2
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_4 : BitVec 32 := 256#32
  let v4 : BitVec 32 := Scalar.muli arg9 c256_i32_4
  let c0_i32_5 : BitVec 32 := 0#32
  let v5 : BitVec 32 := Scalar.addi v4 c0_i32_5
  v5
def k0_off1 (k0_t1 : Fin k0_t1_loop.trips) (c0_i32_5 : BitVec 32) : Fin 3 → Nat :=
  let c0 : Index := 0#32
  let c0_i32 : BitVec 32 := 0#32
  let c1_i32 : BitVec 32 := 1#32
  let arg9 : BitVec 32 := Scf.iv c0_i32 c1_i32 k0_t1
  let c256_i32_4 : BitVec 32 := 256#32
  let v4 : BitVec 32 := Scalar.muli arg9 c256_i32_4
  let v5 : BitVec 32 := Scalar.addi v4 c0_i32_5
  let v6 : BitVec 32 := v5
  let v7 : Index := Scalar.indexCast v6
  let c0_6 : Index := 0#32
  ![0, v7.toNat, 0]
def k0_off2 (k0_t1 : Fin k0_t1_loop.trips) (c0_i32_7 : BitVec 32) : Fin 3 → Nat :=
  let c0_8 : Index := 0#32
  let c0_i32 : BitVec 32 := 0#32
  let c1_i32 : BitVec 32 := 1#32
  let arg9 : BitVec 32 := Scf.iv c0_i32 c1_i32 k0_t1
  let c2_i32 : BitVec 32 := 2#32
  let v11 : BitVec 32 := Scalar.muli arg9 c2_i32
  let v12 : BitVec 32 := Scalar.addi v11 c0_i32_7
  let v13 : Index := Scalar.indexCast v12
  let c0_9 : Index := 0#32
  ![0, v13.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_10 : BitVec 32 := 256#32
  let v19 : BitVec 32 := Scalar.muli arg9 c256_i32_10
  let c128_i32 : BitVec 32 := 128#32
  let v20 : BitVec 32 := Scalar.addi v19 c128_i32
  v20
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v2 : BitVec 32 := Scalar.muli arg9 c256_i32
  let v3 : BitVec 32 := v2
  let v35 : Index := Scalar.indexCast v3
  let c0_17 : Index := 0#32
  ![v35.toNat, 0]
def k0_off4 (k0_t1 : Fin k0_t1_loop.trips) : Fin 3 → Nat :=
  let c0_i32 : BitVec 32 := 0#32
  let c1_i32 : BitVec 32 := 1#32
  let arg9 : BitVec 32 := Scf.iv c0_i32 c1_i32 k0_t1
  let c4_i32_18 : BitVec 32 := 4#32
  let v40 : BitVec 32 := Scalar.muli arg9 c4_i32_18
  let v41 : Index := Scalar.indexCast v40
  let c0_19 : Index := 0#32
  let c0_20 : Index := 0#32
  ![v41.toNat, 0, 0]
@[reducible] def k0_t2_loop : Scf.Loop 32 :=
  let c0_i32_1 : BitVec 32 := 0#32
  let c4_i32 : BitVec 32 := 4#32
  let v1 : BitVec 32 := Scalar.addi c0_i32_1 c4_i32
  let c1_i32_2 : BitVec 32 := 1#32
  ⟨c0_i32_1, v1, c1_i32_2⟩
def k0_mult4 (k0_t2 : Fin k0_t2_loop.trips) : BitVec 32 :=
  let c0_i32_1 : BitVec 32 := 0#32
  let c1_i32_2 : BitVec 32 := 1#32
  let arg9 : BitVec 32 := Scf.iv c0_i32_1 c1_i32_2 k0_t2
  let c2_i32 : BitVec 32 := 2#32
  let v2 : BitVec 32 := Scalar.muli arg9 c2_i32
  let c8_i32 : BitVec 32 := 8#32
  let v3 : BitVec 32 := Scalar.muli v2 c8_i32
  let c0_i32_4 : BitVec 32 := 0#32
  let v4 : BitVec 32 := Scalar.addi v3 c0_i32_4
  v4
def k0_off5 (k0_t2 : Fin k0_t2_loop.trips) (c0_i32_4 : BitVec 32) : Fin 3 → Nat :=
  let c0_6 : Index := 0#32
  let c0_i32_1 : BitVec 32 := 0#32
  let c1_i32_2 : BitVec 32 := 1#32
  let arg9 : BitVec 32 := Scf.iv c0_i32_1 c1_i32_2 k0_t2
  let c2_i32 : BitVec 32 := 2#32
  let v2 : BitVec 32 := Scalar.muli arg9 c2_i32
  let c8_i32 : BitVec 32 := 8#32
  let v3 : BitVec 32 := Scalar.muli v2 c8_i32
  let v4 : BitVec 32 := Scalar.addi v3 c0_i32_4
  let v5 : BitVec 32 := v4
  let v8 : Index := Scalar.indexCast v5
  let c0_7 : Index := 0#32
  ![0, v8.toNat, 0]
def k0_mult5 (k0_t2 : Fin k0_t2_loop.trips) : BitVec 32 :=
  let c0_i32_1 : BitVec 32 := 0#32
  let c1_i32_2 : BitVec 32 := 1#32
  let arg9 : BitVec 32 := Scf.iv c0_i32_1 c1_i32_2 k0_t2
  let c2_i32_10 : BitVec 32 := 2#32
  let v24 : BitVec 32 := Scalar.muli arg9 c2_i32_10
  let c8_i32_11 : BitVec 32 := 8#32
  let v25 : BitVec 32 := Scalar.muli v24 c8_i32_11
  let c8_i32_12 : BitVec 32 := 8#32
  let v26 : BitVec 32 := Scalar.addi v25 c8_i32_12
  v26
def k0_mult6 (k0_t2 : Fin k0_t2_loop.trips) : BitVec 32 :=
  let c0_i32_1 : BitVec 32 := 0#32
  let c1_i32_2 : BitVec 32 := 1#32
  let arg9 : BitVec 32 := Scf.iv c0_i32_1 c1_i32_2 k0_t2
  let c2_i32_20 : BitVec 32 := 2#32
  let v48 : BitVec 32 := Scalar.muli arg9 c2_i32_20
  let c8_i32_21 : BitVec 32 := 8#32
  let v49 : BitVec 32 := Scalar.muli v48 c8_i32_21
  v49
def k0_off6 (k0_t2 : Fin k0_t2_loop.trips) : Fin 4 → Nat :=
  let c0_22 : Index := 0#32
  let c0_23 : Index := 0#32
  let c0_i32_1 : BitVec 32 := 0#32
  let c1_i32_2 : BitVec 32 := 1#32
  let arg9 : BitVec 32 := Scf.iv c0_i32_1 c1_i32_2 k0_t2
  let c2_i32_20 : BitVec 32 := 2#32
  let v48 : BitVec 32 := Scalar.muli arg9 c2_i32_20
  let c8_i32_21 : BitVec 32 := 8#32
  let v49 : BitVec 32 := Scalar.muli v48 c8_i32_21
  let v50 : BitVec 32 := v49
  let v51 : Index := Scalar.indexCast v50
  let c0_24 : Index := 0#32
  ![0, 0, v51.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x4096x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S3x4096x3584 : Shape := ⟨3, ![3, 4096, 3584]⟩
abbrev S3x32x28 : Shape := ⟨3, ![3, 32, 28]⟩
abbrev S4096 : Shape := ⟨1, ![4096]⟩
abbrev S64x64 : Shape := ⟨2, ![64, 64]⟩
abbrev S128x128 : Shape := ⟨2, ![128, 128]⟩
abbrev S3x64x64x3584 : Shape := ⟨4, ![3, 64, 64, 3584]⟩
abbrev S3x32x128x28x128 : Shape := ⟨5, ![3, 32, 128, 28, 128]⟩
abbrev S3x32x1x28x1 : Shape := ⟨5, ![3, 32, 1, 28, 1]⟩
abbrev S4096x1 : Shape := ⟨2, ![4096, 1]⟩
abbrev S1x4096x1 : Shape := ⟨3, ![1, 4096, 1]⟩
abbrev S64x3x64x3584 : Shape := ⟨4, ![64, 3, 64, 3584]⟩

abbrev nBuf : Space → Nat
  | .hbm => 8
  | .vmem => 6
  | .smem => 0
  | _ => 0

abbrev bufTy : (tb : Table) → Fin (tcTables nBuf tb) → BufTy
  | .hbm, ⟨0, _⟩ => ⟨S3x4096x3584, .f32⟩
  | .hbm, ⟨1, _⟩ => ⟨S3x32x28, .f32⟩
  | .hbm, ⟨2, _⟩ => ⟨S4096, .f32⟩
  | .hbm, ⟨3, _⟩ => ⟨S64x64, .bf16⟩
  | .hbm, ⟨4, _⟩ => ⟨S64x64, .bf16⟩
  | .hbm, ⟨5, _⟩ => ⟨S128x128, .bf16⟩
  | .hbm, ⟨6, _⟩ => ⟨S3x4096x3584, .fp8e4m3⟩
  | .hbm, ⟨7, _⟩ => ⟨S3x64x64x3584, .bf16⟩
  | .local _ .vmem, ⟨0, _⟩ => ⟨S3x4096x3584, .fp8e4m3⟩
  | .local _ .vmem, ⟨1, _⟩ => ⟨S3x32x28, .f32⟩
  | .local _ .vmem, ⟨2, _⟩ => ⟨S4096, .f32⟩
  | .local _ .vmem, ⟨3, _⟩ => ⟨S64x64, .bf16⟩
  | .local _ .vmem, ⟨4, _⟩ => ⟨S64x64, .bf16⟩
  | .local _ .vmem, ⟨5, _⟩ => ⟨S3x64x64x3584, .bf16⟩
  | _, _ => ⟨S3x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x32x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x64x64x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.LoopState.lean ====
module

public import Mathlib.Data.Fin.Basic

/-!
# What a counted loop has done before trip `k`

Two ways to speak of a loop of `n` trips before its trip `k`: `loopFold` is a carried value that every trip maps on, `loopList`
is a list that every trip puts one entry in front of. Both stand still from trip `n` on.
-/

@[expose] public section

namespace Cert.Proof

variable {α β : Type*} {n : ℕ}

/-- The carried value before trip `k`: `init`, mapped on by each trip before. -/
def loopFold (f : Fin n → α → α) (init : α) : ℕ → α
  | 0 => init
  | k + 1 => if h : k < n then f ⟨k, h⟩ (loopFold f init k) else loopFold f init k

theorem loopFold_succ (f : Fin n → α → α) (init : α) (k : Fin n) :
    loopFold f init (k.val + 1) = f k (loopFold f init k.val) := by
  rw [loopFold]; exact dif_pos k.isLt

/-- The list before trip `k`: the entries of the trips before, the latest first. -/
def loopList (g : Fin n → β) : ℕ → List β
  | 0 => []
  | k + 1 => if h : k < n then g ⟨k, h⟩ :: loopList g k else loopList g k

theorem loopList_succ (g : Fin n → β) (k : Fin n) : loopList g (k.val + 1) = g k :: loopList g k.val := by
  rw [loopList]; exact dif_pos k.isLt

/-- The entries of the list before trip `k` are those of the trips before. -/
theorem mem_loopList (g : Fin n → β) : ∀ (k : ℕ) (b : β), b ∈ loopList g k ↔ ∃ j : Fin n, j.val < k ∧ b = g j
  | 0, b => by simp [loopList]
  | k + 1, b => by
    rw [loopList]
    split
    · rename_i h
      rw [List.mem_cons, mem_loopList g k b]
      constructor
      · rintro (rfl | ⟨j, hj, rfl⟩)
        · exact ⟨⟨k, h⟩, Nat.lt_succ_self k, rfl⟩
        · exact ⟨j, hj.trans (Nat.lt_succ_self k), rfl⟩
      · rintro ⟨j, hj, rfl⟩
        rcases Nat.lt_succ_iff_lt_or_eq.mp hj with h' | h'
        · exact .inr ⟨j, h', rfl⟩
        · exact .inl (congrArg g (Fin.ext h'))
    · rename_i h
      rw [mem_loopList g k b]
      constructor
      · rintro ⟨j, hj, rfl⟩; exact ⟨j, hj.trans (Nat.lt_succ_self k), rfl⟩
      · rintro ⟨j, hj, rfl⟩; exact ⟨j, lt_of_lt_of_le j.isLt (Nat.le_of_not_lt h), rfl⟩

end Cert.Proof
-- ==== Proof.LoopRule.lean ====
module

public import Idealize.ShloMosaic.Lib.Scf
public import proofs.«01_k».proof.Proof.LoopState

/-!
# A counted loop that writes one block a trip

Every loop of the kernels writes one block a trip on top of those of the trips before, and maps a carried value on. So one
trip, at any list of blocks already written, is all there is to prove of a loop: the loop then leaves the blocks of all trips,
and yields the fold of the carried value.
-/

@[expose] public section

namespace Cert.Proof

open Idealize.SL Idealize.SL.Sem Idealize.SL.BI Idealize.ShloMosaic
open scoped Idealize.SL.BI
open Idealize.SL.BI.BIBase Idealize.SL.BI.Laws Idealize.SL.ProofMode

universe u v

variable {w : Nat} {E : Type → Type v} {σ : Type} {β : Type*}
variable {M : Type u} [RA.URA M] {Mask : Sort*} (Fr : Mask → sProp M) (wpE : Mask → ∀ ⦃β : Type⦄, E β → sWPT M β) (Es : Mask)
variable [∀ ⦃β : Type⦄ (e : E β), sWPT.Frameable (wpE Es e)]
variable (lb ub st : BitVec w) (hok : Scf.OK lb ub st)

/-- The rule: `P L` says the blocks `L` are written, the latest first. -/
theorem wp_loop (init : σ) (body : Fin (Scf.trips lb ub st) → σ → Prog E σ) (P : List β → sProp M) (pc : Fin (Scf.trips lb ub st) → β)
    (acc : Fin (Scf.trips lb ub st) → σ → σ)
    (trip : ∀ k a L, P L ⊢ wp Fr wpE Es (body k a) (fun y => iprop(⌜y = acc k a⌝ ∗ P (pc k :: L)))) {Q : σ → sProp M} :
    iprop(P [] ∗ (∀ y, iprop(⌜y = loopFold acc init (Scf.trips lb ub st)⌝ ∗ P (loopList pc (Scf.trips lb ub st))) -∗ Q y))
      ⊢ wp Fr wpE Es (Scf.for lb ub st hok init body) Q := by
  iintro ⟨HP, HQ⟩
  iapply (Scf.wp_for Fr wpE Es lb ub st hok init body (fun k a => iprop(⌜a = loopFold acc init k⌝ ∗ P (loopList pc k))) (fun k a => by
    iintro ⟨%ha, H⟩
    subst ha
    rw [loopList_succ, loopFold_succ]
    iapply (trip k _ _)
    iexact H))
  isplitl [HP]
  · isplitr; · ipureintro; rfl
    rw [loopList]; iexact HP
  iexact HQ

/-- The rule for a loop that carries nothing. -/
theorem wp_loop_unit (body : Fin (Scf.trips lb ub st) → Unit → Prog E Unit) (P : List β → sProp M) (pc : Fin (Scf.trips lb ub st) → β)
    (trip : ∀ k L, P L ⊢ wp Fr wpE Es (body k ()) (fun _ => P (pc k :: L))) {Q : Unit → sProp M} :
    iprop(P [] ∗ (∀ y, P (loopList pc (Scf.trips lb ub st)) -∗ Q y)) ⊢ wp Fr wpE Es (Scf.for lb ub st hok () body) Q := by
  iintro ⟨HP, HQ⟩
  iapply (Scf.wp_for Fr wpE Es lb ub st hok () body (fun k _ => P (loopList pc k)) (fun k a => by
    rw [loopList_succ]
    exact trip k _))
  isplitl [HP]; · rw [loopList]; iexact HP
  iexact HQ

end Cert.Proof
-- ==== Proof.ConvertKernelIdeal.lean ====
module

public import proofs.«01_k».proof.Proof.Gen.KernelIdeal.Loops
public import proofs.«01_k».proof.Proof.Gen.KernelIdeal.Frame
public import proofs.«01_k».proof.Proof.LoopRule

/-!
# The five loops of the body of `KernelIdeal`

One trip of each loop in terms of the payloads of the listing, and the loop from what its buffers hold before to what they
hold after. What a loop leaves is said without the buffers' names: a list of blocks written (`View.canon` reads such a list),
a fold over the trips. The first loop makes the product with one Hadamard matrix, 256 columns a trip; the second the product
with the other, eight rows a trip, keeping the maxima; the third and the fourth round the two halves of the lanes at the eight
scales and add up the squared errors; the fifth turns the codes back.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S1x256x4096 .fp8e4m3) (harg2 : arg2.IsWhole) (arg3 : Memref sig .tc .vmem S1x1x2x4096 .f32) (harg3 : arg3.IsWhole)
  (arg4 : Memref sig .tc .vmem S1x1x4096 .f32) (harg4 : arg4.IsWhole) (arg5 : Memref sig .tc .vmem S256x256 .bf16) (harg5 : arg5.IsWhole)
  (arg6 : Memref sig .tc .vmem S512x512 .bf16) (harg6 : arg6.IsWhole) (arg7 : Memref sig .tc .vmem S256x256 .bf16) (harg7 : arg7.IsWhole)
  (arg8 : Memref sig .tc .vmem S1x1x256 .i32) (harg8 : arg8.IsWhole) (arg9 : Memref sig .tc .vmem S1x256x4096 .fp8e4m3) (harg9 : arg9.IsWhole)
  (arg10 : Memref sig .tc .vmem S1x1x256 .f32) (harg10 : arg10.IsWhole) (arg11 : Memref sig .tc .vmem S1x8x256 .f32) (harg11 : arg11.IsWhole)
  (arg12 : Memref sig .tc .vmem S64x64x256 .f32) (harg12 : arg12.IsWhole) (arg13 : Memref sig .tc .vmem S64x64x256 .f32) (harg13 : arg13.IsWhole)
  (arg14 : Memref sig .tc .vmem S4096x256 .fp8e4m3) (harg14 : arg14.IsWhole)

/-- The eight running sums of squares the loops carry, one per ratio. -/
abbrev Acc (F : FTy → Type) : Type :=
  FVec F S8x128 .f32 × FVec F S8x128 .f32 × FVec F S8x128 .f32 × FVec F S8x128 .f32 × FVec F S8x128 .f32 × FVec F S8x128 .f32 × FVec F S8x128 .f32 × FVec F S8x128 .f32

/-! ## The first product: 256 columns a trip -/

/-- The slab trip `k` writes of the first product's array, from the blocks the body was given. -/
def pc1 (x0 : Vec F S1x256x4096 .fp8e4m3) (x1 : Vec F S1x1x2x4096 .f32) (x2 : Vec F S1x1x4096 .f32) (x3 : Vec F S256x256 .bf16) (k : Fin k0_t1_loop.trips) : View.Piece (Elt F) S64x64x256 .f32 :=
  ⟨Rect.unit (s := S64x64x256) (k0_off6 k) S4x64x256.size (k0_off6_inb k), (k0_pay51 (k0_pay6 (View.ld x1 (Rect.unit (s := S1x1x2x4096) (k0_off1 k) S1x1x1x256.size (k0_off1_inb k)))
    (View.ld x2 (Rect.unit (s := S1x1x4096) (k0_off2 k) S1x1x256.size (k0_off2_inb k)))
    (View.ld x0 (Rect.unit (s := S1x256x4096) (k0_off3 k) S1x128x256.size (k0_off3_inb k)))
    (View.ld x1 (Rect.unit (s := S1x1x2x4096) (k0_off4 k) S1x1x1x256.size (k0_off4_inb k)))
    (View.ld x2 (Rect.unit (s := S1x1x4096) (k0_off2 k) S1x1x256.size (k0_off2_inb k)))
    (View.ld x0 (Rect.unit (s := S1x256x4096) (k0_off5 k) S1x128x256.size (k0_off5_inb k)))
    (View.ld x3 (Rect.unit (s := S256x256) ![0, 0] S256x256.size (by decide)))))⟩

/-- All it writes. -/
def pcs1 (x0 : Vec F S1x256x4096 .fp8e4m3) (x1 : Vec F S1x1x2x4096 .f32) (x2 : Vec F S1x1x4096 .f32) (x3 : Vec F S256x256 .bf16) : List (View.Piece (Elt F) S64x64x256 .f32) := loopList (pc1 x0 x1 x2 x3) k0_t1_loop.trips

/-- One trip at any contents. -/
theorem trip1 (X0 : BufTy.Contents (Elt F) arg2.view.ty) (X1 : BufTy.Contents (Elt F) arg3.view.ty) (X2 : BufTy.Contents (Elt F) arg4.view.ty) (X3 : BufTy.Contents (Elt F) arg5.view.ty) (k : Fin k0_t1_loop.trips) (f : BufTy.Contents (Elt F) arg12.view.ty) :
    (iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3) ∗ (arg12.view.loc (c : Thread nD τ) ↦[arg12.view.set]{fullShare} f)) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3) ∗ (arg12.view.loc (c : Thread nD τ) ↦[arg12.view.set]{fullShare} (arg12.view.writes (Elt F) f [⟨Rect.unit (s := S64x64x256) (k0_off6 k) S4x64x256.size (k0_off6_inb k), (k0_pay51 (k0_pay6 (View.readAt (Elt F) arg3.view (Rect.unit (s := S1x1x2x4096) (k0_off1 k) S1x1x1x256.size (k0_off1_inb k)).toLoadRect X1)
    (View.readAt (Elt F) arg4.view (Rect.unit (s := S1x1x4096) (k0_off2 k) S1x1x256.size (k0_off2_inb k)).toLoadRect X2)
    (View.readAt (Elt F) arg2.view (Rect.unit (s := S1x256x4096) (k0_off3 k) S1x128x256.size (k0_off3_inb k)).toLoadRect X0)
    (View.readAt (Elt F) arg3.view (Rect.unit (s := S1x1x2x4096) (k0_off4 k) S1x1x1x256.size (k0_off4_inb k)).toLoadRect X1)
    (View.readAt (Elt F) arg4.view (Rect.unit (s := S1x1x4096) (k0_off2 k) S1x1x256.size (k0_off2_inb k)).toLoadRect X2)
    (View.readAt (Elt F) arg2.view (Rect.unit (s := S1x256x4096) (k0_off5 k) S1x128x256.size (k0_off5_inb k)).toLoadRect X0)
    (View.readAt (Elt F) arg5.view (Rect.unit (s := S256x256) ![0, 0] S256x256.size (by decide)).toLoadRect X3)))⟩])))) := by
  have hk : k.val < 16 := Nat.lt_of_lt_of_le k.isLt k0_t1_abs.2.1
  unfold k0_t1_body
  iintro ⟨HR2, HR3, HR4, HR5, HW⟩
  sl_exec
  sl_step
  sl_close

/-- One trip at the given blocks. -/
theorem trip1' (x0 : Vec F S1x256x4096 .fp8e4m3) (x1 : Vec F S1x1x2x4096 .f32) (x2 : Vec F S1x1x4096 .f32) (x3 : Vec F S256x256 .bf16) (k : Fin k0_t1_loop.trips) (f : BufTy.Contents (Elt F) arg12.view.ty) :
    (iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg12.view.loc (c : Thread nD τ) ↦[arg12.view.set]{fullShare} f)) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg12.view.loc (c : Thread nD τ) ↦[arg12.view.set]{fullShare} (arg12.view.writes (Elt F) f [pc1 x0 x1 x2 x3 k])))) := by
  have h := trip1 (F := F) 𝒱 c bd E i arg2 harg2 arg3 harg3 arg4 harg4 arg5 harg5 arg6 harg6 arg7 harg7 arg8 harg8 arg9 harg9 arg10 harg10 arg11 harg11 arg12 harg12 arg13 harg13 arg14 harg14 (harg2.unread x0) (harg3.unread x1) (harg4.unread x2) (harg5.unread x3) k f
  simp only [View.readAt_eq_ld, Memref.IsWhole.read_unread] at h
  exact h

theorem cover1 (x0 : Vec F S1x256x4096 .fp8e4m3) (x1 : Vec F S1x1x2x4096 .f32) (x2 : Vec F S1x1x4096 .f32) (x3 : Vec F S256x256 .bf16) : ∀ y : S64x64x256.Idx, ∃ p ∈ pcs1 (F := F) x0 x1 x2 x3, y ∈ p.1.set :=
  View.cover_of_tiledL _ S4x64x256.size (by sl_kernel_rfl)

/-- The loop: it leaves the array at its slabs. -/
theorem loop1 (x0 : Vec F S1x256x4096 .fp8e4m3) (x1 : Vec F S1x1x2x4096 .f32) (x2 : Vec F S1x1x4096 .f32) (x3 : Vec F S256x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg12 fullShare d)) : sProp 𝕄G)
      ⊢ wp frame (wpE (defs₀ (F := F)) 𝒱 (c : Thread nD τ) bd) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14))
          (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg12 fullShare (View.canon (pcs1 x0 x1 x2 x3)))) := by
  unfold owns
  iintro ⟨⟨%f0, %hf0, H0⟩, ⟨%f1, %hf1, H1⟩, ⟨%f2, %hf2, H2⟩, ⟨%f3, %hf3, H3⟩, ⟨%d, %f, -, HW⟩⟩
  obtain rfl := harg2.eq_unread hf0; obtain rfl := harg3.eq_unread hf1; obtain rfl := harg4.eq_unread hf2; obtain rfl := harg5.eq_unread hf3
  iapply (wp_loop_unit frame (wpE (defs₀ (F := F)) 𝒱 (c : Thread nD τ) bd) E _ _ _ k0_t1_ok _ _ (pc1 x0 x1 x2 x3)
    (fun k L => trip1' (F := F) 𝒱 c bd E i arg2 harg2 arg3 harg3 arg4 harg4 arg5 harg5 arg6 harg6 arg7 harg7 arg8 harg8 arg9 harg9 arg10 harg10 arg11 harg11 arg12 harg12 arg13 harg13 arg14 harg14 x0 x1 x2 x3 k (arg12.view.writes (Elt F) f L)))
  isplitl [H0 H1 H2 H3 HW]
  · dsimp only
    isplitl [H0]; · iexact H0
    isplitl [H1]; · iexact H1
    isplitl [H2]; · iexact H2
    isplitl [H3]; · iexact H3
    iexact HW
  iintro %acc Hinv
  dsimp only
  icases Hinv with ⟨H0, H1, H2, H3, HW⟩
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HW
  ipureintro; exact View.read_writes_eq_canon _ _ _ (cover1 x0 x1 x2 x3)

/-! ## The second product: eight rows of it a trip -/

/-- The slab trip `k` writes of the rotated block. -/
def pc2 (x4 : Vec F S512x512 .bf16) (t : Vec F S64x64x256 .f32) (k : Fin k0_t2_loop.trips) : View.Piece (Elt F) S64x64x256 .f32 :=
  ⟨(Rect.unit (s := S64x64x256) (k0_off7 k) S64x8x256.size (k0_off7_inb k)), k0_pay54 (View.ld x4 (Rect.unit (s := S512x512) ![0, 0] S512x512.size (by decide))) (View.ld t (Rect.unit (s := S64x64x256) (k0_off7 k) S64x8x256.size (k0_off7_inb k)))⟩

/-- The running maxima after trip `k`. -/
def acc2 (x4 : Vec F S512x512 .bf16) (t : Vec F S64x64x256 .f32) (k : Fin k0_t2_loop.trips) (a : FVec F S8x256 .f32) : FVec F S8x256 .f32 := k0_pay55 a (View.ld x4 (Rect.unit (s := S512x512) ![0, 0] S512x512.size (by decide))) (View.ld t (Rect.unit (s := S64x64x256) (k0_off7 k) S64x8x256.size (k0_off7_inb k)))

/-- All it writes, and the maxima it ends with. -/
def pcs2 (x4 : Vec F S512x512 .bf16) (t : Vec F S64x64x256 .f32) : List (View.Piece (Elt F) S64x64x256 .f32) := loopList (pc2 x4 t) k0_t2_loop.trips
def maxs (x4 : Vec F S512x512 .bf16) (t : Vec F S64x64x256 .f32) : FVec F S8x256 .f32 := loopFold (acc2 x4 t) (k0_pay52 (F := F)) k0_t2_loop.trips

/-- One trip at any contents. -/
theorem trip2 (X4 : BufTy.Contents (Elt F) arg6.view.ty) (X12 : BufTy.Contents (Elt F) arg12.view.ty) (k : Fin k0_t2_loop.trips) (a : FVec F S8x256 .f32) (f : BufTy.Contents (Elt F) arg13.view.ty) :
    (iprop((arg6.view.loc (c : Thread nD τ) ↦[arg6.view.set]{fullShare} X4) ∗ (arg12.view.loc (c : Thread nD τ) ↦[arg12.view.set]{fullShare} X12) ∗ (arg13.view.loc (c : Thread nD τ) ↦[arg13.view.set]{fullShare} f)) : sProp 𝕄G)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 k a)
          (fun yld => iprop(⌜yld = k0_pay55 a (View.readAt (Elt F) arg6.view (Rect.unit (s := S512x512) ![0, 0] S512x512.size (by decide)).toLoadRect X4) (View.readAt (Elt F) arg12.view (Rect.unit (s := S64x64x256) (k0_off7 k) S64x8x256.size (k0_off7_inb k)).toLoadRect X12)⌝ ∗ (arg6.view.loc (c : Thread nD τ) ↦[arg6.view.set]{fullShare} X4) ∗ (arg12.view.loc (c : Thread nD τ) ↦[arg12.view.set]{fullShare} X12) ∗ (arg13.view.loc (c : Thread nD τ) ↦[arg13.view.set]{fullShare} (arg13.view.writes (Elt F) f [⟨(Rect.unit (s := S64x64x256) (k0_off7 k) S64x8x256.size (k0_off7_inb k)), k0_pay54 (View.readAt (Elt F) arg6.view (Rect.unit (s := S512x512) ![0, 0] S512x512.size (by decide)).toLoadRect X4) (View.readAt (Elt F) arg12.view (Rect.unit (s := S64x64x256) (k0_off7 k) S64x8x256.size (k0_off7_inb k)).toLoadRect X12)⟩])))) := by
  have hk : k.val < 8 := Nat.lt_of_lt_of_le k.isLt k0_t2_abs.2.1
  unfold k0_t2_body
  iintro ⟨HR6, HR12, HW⟩
  sl_exec
  sl_step
  sl_close

/-- One trip at the given matrix and array. -/
theorem trip2' (x4 : Vec F S512x512 .bf16) (t : Vec F S64x64x256 .f32) (k : Fin k0_t2_loop.trips) (a : FVec F S8x256 .f32) (f : BufTy.Contents (Elt F) arg13.view.ty) :
    (iprop((arg6.view.loc (c : Thread nD τ) ↦[arg6.view.set]{fullShare} (harg6.unread x4)) ∗ (arg12.view.loc (c : Thread nD τ) ↦[arg12.view.set]{fullShare} (harg12.unread t)) ∗ (arg13.view.loc (c : Thread nD τ) ↦[arg13.view.set]{fullShare} f)) : sProp 𝕄G)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 k a)
          (fun yld => iprop(⌜yld = acc2 x4 t k a⌝ ∗ (arg6.view.loc (c : Thread nD τ) ↦[arg6.view.set]{fullShare} (harg6.unread x4)) ∗ (arg12.view.loc (c : Thread nD τ) ↦[arg12.view.set]{fullShare} (harg12.unread t)) ∗ (arg13.view.loc (c : Thread nD τ) ↦[arg13.view.set]{fullShare} (arg13.view.writes (Elt F) f [pc2 x4 t k])))) := by
  have h := trip2 (F := F) 𝒱 c bd E i arg2 harg2 arg3 harg3 arg4 harg4 arg5 harg5 arg6 harg6 arg7 harg7 arg8 harg8 arg9 harg9 arg10 harg10 arg11 harg11 arg12 harg12 arg13 harg13 arg14 harg14 (harg6.unread x4) (harg12.unread t) k a f
  simp only [View.readAt_eq_ld, Memref.IsWhole.read_unread] at h
  exact h

theorem cover2 (x4 : Vec F S512x512 .bf16) (t : Vec F S64x64x256 .f32) : ∀ y : S64x64x256.Idx, ∃ p ∈ pcs2 (F := F) x4 t, y ∈ p.1.set :=
  View.cover_of_tiledL _ S64x8x256.size (by sl_kernel_rfl)

/-- The loop: it leaves the rotated block, and yields the maxima. -/
theorem loop2 (x4 : Vec F S512x512 .bf16) (t : Vec F S64x64x256 .f32) :
    (iprop(owns (c : Thread nD τ) arg6 fullShare x4 ∗ owns (c : Thread nD τ) arg12 fullShare t ∗ (∃ d, owns (c : Thread nD τ) arg13 fullShare d)) : sProp 𝕄G)
      ⊢ wp frame (wpE (defs₀ (F := F)) 𝒱 (c : Thread nD τ) bd) E (Scf.Loop.for k0_t2_loop k0_t2_ok (k0_pay52 (F := F)) (k0_t2_body (F := F) i arg2 harg2 arg3 harg3 arg4 harg4 arg5 harg5 arg6 harg6 arg7 harg7 arg8 harg8 arg9 harg9 arg10 harg10 arg11 harg11 arg12 harg12 arg13 harg13 arg14 harg14))
          (fun a => iprop(⌜a = maxs x4 t⌝ ∗ owns (c : Thread nD τ) arg6 fullShare x4 ∗ owns (c : Thread nD τ) arg12 fullShare t ∗ owns (c : Thread nD τ) arg13 fullShare (View.canon (pcs2 x4 t)))) := by
  unfold owns
  iintro ⟨⟨%f0, %hf0, H0⟩, ⟨%f1, %hf1, H1⟩, ⟨%d, %f, -, HW⟩⟩
  obtain rfl := harg6.eq_unread hf0; obtain rfl := harg12.eq_unread hf1
  iapply (wp_loop frame (wpE (defs₀ (F := F)) 𝒱 (c : Thread nD τ) bd) E _ _ _ k0_t2_ok _ _ _ (pc2 x4 t) (acc2 x4 t)
    (fun k a L => trip2' (F := F) 𝒱 c bd E i arg2 harg2 arg3 harg3 arg4 harg4 arg5 harg5 arg6 harg6 arg7 harg7 arg8 harg8 arg9 harg9 arg10 harg10 arg11 harg11 arg12 harg12 arg13 harg13 arg14 harg14 x4 t k a (arg13.view.writes (Elt F) f L)))
  isplitl [H0 H1 HW]
  · dsimp only
    isplitl [H0]; · iexact H0
    isplitl [H1]; · iexact H1
    iexact HW
  iintro %acc Hinv
  dsimp only
  icases Hinv with ⟨%ha, H0, H1, HW⟩
  isplitr; · ipureintro; exact ha
  isplitl [H0]
  · iexists _; isplitr; · ipureintro; exact harg6.read_unread _
    iexact H0
  isplitl [H1]
  · iexists _; isplitr; · ipureintro; exact harg12.read_unread _
    iexact H1
  iexists _; isplitr; swap; · iexact HW
  ipureintro; exact View.read_writes_eq_canon _ _ _ (cover2 x4 t)

/-! ## The rotated block as a matrix -/

/-- The rotated block with its two leading axes merged: row `64 a + j` is column `64 a + j` of the weight. -/
def rows (r : Vec F S64x64x256 .f32) : Vec F S4096x256 .f32 :=
  fun x => r (Shape.reshapeEquiv (s := S64x64x256) (s' := S4096x256) reshapes_S64x64x256_S4096x256.1 x)

/-- A read through the merged view reads the matrix. -/
theorem rows_read (arg13 : Memref sig .tc .vmem S64x64x256 .f32) (harg13 : arg13.IsWhole) (r : Vec F S64x64x256 .f32) (B : Rect S4096x256) :
    View.readAt (Elt F) (arg13.reshape S4096x256 reshapes_S64x64x256_S4096x256.1 reshapes_S64x64x256_S4096x256.2 harg13.contiguous).view B.toLoadRect (harg13.unread r)
      = View.ld (rows r) B :=
  funext fun x => congrFun (harg13.read_unread r) (Shape.reshapeEquiv (s := S64x64x256) (s' := S4096x256) reshapes_S64x64x256_S4096x256.1 (B.idx x))

/-! ## The first half of the lanes -/

/-- The carried value after one trip over the row block `b`, from the value `a` before it. -/
def acc3 (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (b : Vec F S32x128 .f32) (a : Acc F) : Acc F :=
  (k0_pay10 v116 a.1 b, k0_pay13 v121 a.2.1 b, k0_pay18 a.2.2.1 (k0_pay15 v126 b) (k0_pay17 v126 b),
    k0_pay21 v131 a.2.2.2.1 (k0_pay7 b), k0_pay24 v136 a.2.2.2.2.1 (k0_pay7 b),
    k0_pay87 a.2.2.2.2.2.1 (k0_pay26 v141 (k0_pay7 b)) (k0_pay28 v141 (k0_pay7 b)),
    k0_pay90 v146 a.2.2.2.2.2.2.1 (k0_pay7 b), k0_pay93 v151 a.2.2.2.2.2.2.2 (k0_pay7 b))

/-- The codes one trip stores for the row block `b`: at each element the code of the ratio its column's index picks. -/
def code3 (v87 : IVec S1x256 32) (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (v156 : IVec S8x128 1) (v161 : IVec S8x128 1) (v162 : IVec S1x128 32) (b : Vec F S32x128 .f32) : FVec F S32x128 .fp8e4m3 :=
  k0_pay94 v87 v146 v151 (k0_pay7 b)
    (k0_pay25 v131 v136 v161 (k0_pay84 v162) (k0_pay85 v87) (k0_pay7 b) (k0_pay14 v116 v121 v156 b) (k0_pay16 v126 b))
    (k0_pay27 v141 (k0_pay7 b))

/-- The block of the code matrix trip `k` writes. -/
def pc3 (v87 : IVec S1x256 32) (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (v156 : IVec S8x128 1) (v161 : IVec S8x128 1) (v162 : IVec S1x128 32) (r : Vec F S64x64x256 .f32) (k : Fin k0_t3_loop.trips) : View.Piece (Elt F) S4096x256 .fp8e4m3 :=
  ⟨(Rect.unit (s := S4096x256) (k0_off8 k) S32x128.size (k0_off8_inb k)), code3 v87 v116 v121 v126 v131 v136 v141 v146 v151 v156 v161 v162 (View.ld (rows r) (Rect.unit (s := S4096x256) (k0_off8 k) S32x128.size (k0_off8_inb k)))⟩

/-- All it writes, and the sums it ends with. -/
def pcs3 (v87 : IVec S1x256 32) (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (v156 : IVec S8x128 1) (v161 : IVec S8x128 1) (v162 : IVec S1x128 32) (r : Vec F S64x64x256 .f32) : List (View.Piece (Elt F) S4096x256 .fp8e4m3) := loopList (pc3 v87 v116 v121 v126 v131 v136 v141 v146 v151 v156 v161 v162 r) k0_t3_loop.trips
def sums3 (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (r : Vec F S64x64x256 .f32) : Acc F :=
  loopFold (fun k => acc3 v116 v121 v126 v131 v136 v141 v146 v151 (View.ld (rows r) (Rect.unit (s := S4096x256) (k0_off8 k) S32x128.size (k0_off8_inb k)))) (k0_pay86 (F := F), k0_pay86 (F := F), k0_pay86 (F := F), k0_pay86 (F := F), k0_pay86 (F := F), k0_pay86 (F := F), k0_pay86 (F := F), k0_pay86 (F := F)) k0_t3_loop.trips

/-- One trip at any contents and the carried value `a`. -/
theorem trip3 (v15 : FVec F S1x256 .f32) (v25 : FVec F S1x256 .f32) (v87 : IVec S1x256 32) (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (v156 : IVec S8x128 1) (v161 : IVec S8x128 1) (v162 : IVec S1x128 32) (X : BufTy.Contents (Elt F) arg13.view.ty) (k : Fin k0_t3_loop.trips) (a : Acc F) (f : BufTy.Contents (Elt F) arg14.view.ty) :
    (iprop((arg13.view.loc (c : Thread nD τ) ↦[arg13.view.set]{fullShare} X) ∗ (arg14.view.loc (c : Thread nD τ) ↦[arg14.view.set]{fullShare} f)) : sProp 𝕄G)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 v15 v25 v87 v116 v121 v126 v131 v136 v141 v146 v151 v156 v161 v162 k a)
          (fun yld => iprop(⌜yld = acc3 v116 v121 v126 v131 v136 v141 v146 v151 (View.readAt (Elt F) (arg13.reshape S4096x256 reshapes_S64x64x256_S4096x256.1 reshapes_S64x64x256_S4096x256.2 harg13.contiguous).view (Rect.unit (s := S4096x256) (k0_off8 k) S32x128.size (k0_off8_inb k)).toLoadRect X) a⌝ ∗ (arg13.view.loc (c : Thread nD τ) ↦[arg13.view.set]{fullShare} X)
            ∗ (arg14.view.loc (c : Thread nD τ) ↦[arg14.view.set]{fullShare} (arg14.view.writes (Elt F) f [⟨(Rect.unit (s := S4096x256) (k0_off8 k) S32x128.size (k0_off8_inb k)), code3 v87 v116 v121 v126 v131 v136 v141 v146 v151 v156 v161 v162 (View.readAt (Elt F) (arg13.reshape S4096x256 reshapes_S64x64x256_S4096x256.1 reshapes_S64x64x256_S4096x256.2 harg13.contiguous).view (Rect.unit (s := S4096x256) (k0_off8 k) S32x128.size (k0_off8_inb k)).toLoadRect X)⟩])))) := by
  have hk : k.val < 128 := Nat.lt_of_lt_of_le k.isLt k0_t3_abs.2.1
  unfold k0_t3_body
  iintro ⟨HR, HW⟩
  sl_exec
  sl_step
  sl_close

/-- One trip at the rotated block `r`. -/
theorem trip3' (v15 : FVec F S1x256 .f32) (v25 : FVec F S1x256 .f32) (v87 : IVec S1x256 32) (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (v156 : IVec S8x128 1) (v161 : IVec S8x128 1) (v162 : IVec S1x128 32) (r : Vec F S64x64x256 .f32) (k : Fin k0_t3_loop.trips) (a : Acc F) (f : BufTy.Contents (Elt F) arg14.view.ty) :
    (iprop((arg13.view.loc (c : Thread nD τ) ↦[arg13.view.set]{fullShare} (harg13.unread r)) ∗ (arg14.view.loc (c : Thread nD τ) ↦[arg14.view.set]{fullShare} f)) : sProp 𝕄G)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 v15 v25 v87 v116 v121 v126 v131 v136 v141 v146 v151 v156 v161 v162 k a)
          (fun yld => iprop(⌜yld = acc3 v116 v121 v126 v131 v136 v141 v146 v151 (View.ld (rows r) (Rect.unit (s := S4096x256) (k0_off8 k) S32x128.size (k0_off8_inb k))) a⌝ ∗ (arg13.view.loc (c : Thread nD τ) ↦[arg13.view.set]{fullShare} (harg13.unread r))
            ∗ (arg14.view.loc (c : Thread nD τ) ↦[arg14.view.set]{fullShare} (arg14.view.writes (Elt F) f [pc3 v87 v116 v121 v126 v131 v136 v141 v146 v151 v156 v161 v162 r k])))) := by
  have h := trip3 (F := F) 𝒱 c bd E i arg2 harg2 arg3 harg3 arg4 harg4 arg5 harg5 arg6 harg6 arg7 harg7 arg8 harg8 arg9 harg9 arg10 harg10 arg11 harg11 arg12 harg12 arg13 harg13 arg14 harg14 v15 v25 v87 v116 v121 v126 v131 v136 v141 v146 v151 v156 v161 v162 (harg13.unread r) k a f
  rw [rows_read arg13 harg13 r] at h
  exact h

/-- The loop: it puts its blocks of codes on top of what the code matrix held, and yields the sums. -/
theorem loop3 (v15 : FVec F S1x256 .f32) (v25 : FVec F S1x256 .f32) (v87 : IVec S1x256 32) (v116 : FVec F S8x128 .f32) (v121 : FVec F S8x128 .f32) (v126 : FVec F S8x128 .f32) (v131 : FVec F S8x128 .f32) (v136 : FVec F S8x128 .f32) (v141 : FVec F S8x128 .f32) (v146 : FVec F S8x128 .f32) (v151 : FVec F S8x128 .f32) (v156 : IVec S8x128 1) (v161 : IVec S8x128 1) (v162 : IVec S1x128 32) (r : Vec F S64x64x256 .f32) (f : BufTy.Contents (Elt F) arg14.view.ty) :
    (iprop(owns (c : Thread nD τ) arg13 fullShare r ∗ (arg14.view.loc (c : Thread nD τ) ↦[arg14.view.set]{fullShare} f)) : sProp 𝕄G)
      ⊢ wp frame (wpE (defs₀ (F := F)) 𝒱 (c : Thread nD τ) bd) E (Scf.Loop.for k0_t3_loop k0_t3_ok (k0_pay86 (F := F), k0_pay86 (F := F), k0_pay86 (F := F), k0_pay86 (F := F), k0_pay86 (F := F), k0_pay86 (F := F), k0_pay86 (F := F), k0_pay86 (F := F)) (k0_t3_body (F := F) i arg2 harg2 arg3 harg3 arg4 harg4 arg5 harg5 arg6 harg6 arg7 harg7 arg8 harg8 arg9 harg9 arg10 harg10 arg11 harg11 arg12 harg12 arg13 harg13 arg14 harg14 v15 v25 v87 v116 v121 v126 v131 v136 v141 v146 v151 v156 v161 v162))
          (fun a => iprop(⌜a = sums3 v116 v121 v126 v131 v136 v141 v146 v151 r⌝ ∗ owns (c : Thread nD τ) arg13 fullShare r ∗ (arg14.view.loc (c : Thread nD τ) ↦[arg14.view.set]{fullShare} (arg14.view.writes (Elt F) f (pcs3 v87 v116 v121 v126 v131 v136 v141 v146 v151 v156 v161 v162 r))))) := by
  unfold owns
  iintro ⟨⟨%f0, %hf0, H0⟩, HW⟩
  obtain rfl := harg13.eq_unread hf0
  iapply (wp_loop frame (wpE (defs₀ (F := F)) 𝒱 (c : Thread nD τ) bd) E _ _ _ k0_t3_ok _ _ _ (pc3 v87 v116 v121 v126 v131 v136 v141 v146 v151 v156 v161 v162 r) (fun k => acc3 v116 v121 v126 v131 v136 v141 v146 v151 (View.ld (rows r) (Rect.unit (s := S4096x256) (k0_off8 k) S32x128.size (k0_off8_inb k))))
    (fun k a L => trip3' (F := F) 𝒱 c bd E i arg2 harg2 arg3 harg3 arg4 harg4 arg5 harg5 arg6 harg6 arg7 harg7 arg8 harg8 arg9 harg9 arg10 harg10 arg11 harg11 arg12 harg12 arg13 harg13 arg14 harg14 v15 v25 v87 v116 v121 v126 v131 v136 v141 v146 v151 v156 v161 v162 r k a (arg14.view.writes (Elt F) f L)))
  isplitl [H0 HW]
  · dsimp only
    isplitl [H0]; · iexact H0
    iexact HW
  iintro %acc Hinv
  dsimp only
  icases Hinv with ⟨%ha, H0, HW⟩
  isplitr; · ipureintro; exact ha
  isplitl [H0]
  · iexists _; isplitr; · ipureintro; exact harg13.read_unread _
    iexact H0
  iexact HW

/-! ## The second half of the lanes -/

/-- The carried value after one trip over the row block `b`, from the value `a` before it. -/
def acc4 (v85 : FVec F S1x256 .f32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (b : Vec F S32x128 .f32) (a : Acc F) : Acc F :=
  (k0_pay32 v258 a.1 b, k0_pay35 v263 a.2.1 b, k0_pay40 a.2.2.1 (k0_pay37 v268 b) (k0_pay39 v268 b),
    k0_pay43 v273 a.2.2.2.1 (k0_pay29 b), k0_pay46 v278 a.2.2.2.2.1 (k0_pay29 b),
    k0_pay118 a.2.2.2.2.2.1 (k0_pay48 v283 (k0_pay29 b)) (k0_pay50 v283 (k0_pay29 b)),
    k0_pay121 v285 a.2.2.2.2.2.2.1 (k0_pay29 b), k0_pay124 v85 a.2.2.2.2.2.2.2 (k0_pay29 b))

/-- The codes one trip stores for the row block `b`: at each element the code of the ratio its column's index picks. -/
def code4 (v85 : FVec F S1x256 .f32) (v87 : IVec S1x256 32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (b : Vec F S32x128 .f32) : FVec F S32x128 .fp8e4m3 :=
  k0_pay125 v85 v87 v285 (k0_pay29 b)
    (k0_pay47 v273 v278 (k0_pay114 v87) (k0_pay115 v87) (k0_pay116 v87) (k0_pay29 b) (k0_pay36 v258 v263 (k0_pay113 v87) b) (k0_pay38 v268 b))
    (k0_pay49 v283 (k0_pay29 b))

/-- The block of the code matrix trip `k` writes. -/
def pc4 (v85 : FVec F S1x256 .f32) (v87 : IVec S1x256 32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (r : Vec F S64x64x256 .f32) (k : Fin k0_t4_loop.trips) : View.Piece (Elt F) S4096x256 .fp8e4m3 :=
  ⟨(Rect.unit (s := S4096x256) (k0_off9 k) S32x128.size (k0_off9_inb k)), code4 v85 v87 v258 v263 v268 v273 v278 v283 v285 (View.ld (rows r) (Rect.unit (s := S4096x256) (k0_off9 k) S32x128.size (k0_off9_inb k)))⟩

/-- All it writes, and the sums it ends with. -/
def pcs4 (v85 : FVec F S1x256 .f32) (v87 : IVec S1x256 32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (r : Vec F S64x64x256 .f32) : List (View.Piece (Elt F) S4096x256 .fp8e4m3) := loopList (pc4 v85 v87 v258 v263 v268 v273 v278 v283 v285 r) k0_t4_loop.trips
def sums4 (v85 : FVec F S1x256 .f32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (r : Vec F S64x64x256 .f32) : Acc F :=
  loopFold (fun k => acc4 v85 v258 v263 v268 v273 v278 v283 v285 (View.ld (rows r) (Rect.unit (s := S4096x256) (k0_off9 k) S32x128.size (k0_off9_inb k)))) (k0_pay117 (F := F), k0_pay117 (F := F), k0_pay117 (F := F), k0_pay117 (F := F), k0_pay117 (F := F), k0_pay117 (F := F), k0_pay117 (F := F), k0_pay117 (F := F)) k0_t4_loop.trips

/-- One trip at any contents and the carried value `a`. -/
theorem trip4 (v15 : FVec F S1x256 .f32) (v85 : FVec F S1x256 .f32) (v87 : IVec S1x256 32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (X : BufTy.Contents (Elt F) arg13.view.ty) (k : Fin k0_t4_loop.trips) (a : Acc F) (f : BufTy.Contents (Elt F) arg14.view.ty) :
    (iprop((arg13.view.loc (c : Thread nD τ) ↦[arg13.view.set]{fullShare} X) ∗ (arg14.view.loc (c : Thread nD τ) ↦[arg14.view.set]{fullShare} f)) : sProp 𝕄G)
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 v15 v85 v87 v258 v263 v268 v273 v278 v283 v285 k a)
          (fun yld => iprop(⌜yld = acc4 v85 v258 v263 v268 v273 v278 v283 v285 (View.readAt (Elt F) (arg13.reshape S4096x256 reshapes_S64x64x256_S4096x256.1 reshapes_S64x64x256_S4096x256.2 harg13.contiguous).view (Rect.unit (s := S4096x256) (k0_off9 k) S32x128.size (k0_off9_inb k)).toLoadRect X) a⌝ ∗ (arg13.view.loc (c : Thread nD τ) ↦[arg13.view.set]{fullShare} X)
            ∗ (arg14.view.loc (c : Thread nD τ) ↦[arg14.view.set]{fullShare} (arg14.view.writes (Elt F) f [⟨(Rect.unit (s := S4096x256) (k0_off9 k) S32x128.size (k0_off9_inb k)), code4 v85 v87 v258 v263 v268 v273 v278 v283 v285 (View.readAt (Elt F) (arg13.reshape S4096x256 reshapes_S64x64x256_S4096x256.1 reshapes_S64x64x256_S4096x256.2 harg13.contiguous).view (Rect.unit (s := S4096x256) (k0_off9 k) S32x128.size (k0_off9_inb k)).toLoadRect X)⟩])))) := by
  have hk : k.val < 128 := Nat.lt_of_lt_of_le k.isLt k0_t4_abs.2.1
  unfold k0_t4_body
  iintro ⟨HR, HW⟩
  sl_exec
  sl_step
  sl_close

/-- One trip at the rotated block `r`. -/
theorem trip4' (v15 : FVec F S1x256 .f32) (v85 : FVec F S1x256 .f32) (v87 : IVec S1x256 32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (r : Vec F S64x64x256 .f32) (k : Fin k0_t4_loop.trips) (a : Acc F) (f : BufTy.Contents (Elt F) arg14.view.ty) :
    (iprop((arg13.view.loc (c : Thread nD τ) ↦[arg13.view.set]{fullShare} (harg13.unread r)) ∗ (arg14.view.loc (c : Thread nD τ) ↦[arg14.view.set]{fullShare} f)) : sProp 𝕄G)
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 v15 v85 v87 v258 v263 v268 v273 v278 v283 v285 k a)
          (fun yld => iprop(⌜yld = acc4 v85 v258 v263 v268 v273 v278 v283 v285 (View.ld (rows r) (Rect.unit (s := S4096x256) (k0_off9 k) S32x128.size (k0_off9_inb k))) a⌝ ∗ (arg13.view.loc (c : Thread nD τ) ↦[arg13.view.set]{fullShare} (harg13.unread r))
            ∗ (arg14.view.loc (c : Thread nD τ) ↦[arg14.view.set]{fullShare} (arg14.view.writes (Elt F) f [pc4 v85 v87 v258 v263 v268 v273 v278 v283 v285 r k])))) := by
  have h := trip4 (F := F) 𝒱 c bd E i arg2 harg2 arg3 harg3 arg4 harg4 arg5 harg5 arg6 harg6 arg7 harg7 arg8 harg8 arg9 harg9 arg10 harg10 arg11 harg11 arg12 harg12 arg13 harg13 arg14 harg14 v15 v85 v87 v258 v263 v268 v273 v278 v283 v285 (harg13.unread r) k a f
  rw [rows_read arg13 harg13 r] at h
  exact h

/-- The loop: it puts its blocks of codes on top of what the code matrix held, and yields the sums. -/
theorem loop4 (v15 : FVec F S1x256 .f32) (v85 : FVec F S1x256 .f32) (v87 : IVec S1x256 32) (v258 : FVec F S8x128 .f32) (v263 : FVec F S8x128 .f32) (v268 : FVec F S8x128 .f32) (v273 : FVec F S8x128 .f32) (v278 : FVec F S8x128 .f32) (v283 : FVec F S8x128 .f32) (v285 : FVec F S1x256 .f32) (r : Vec F S64x64x256 .f32) (f : BufTy.Contents (Elt F) arg14.view.ty) :
    (iprop(owns (c : Thread nD τ) arg13 fullShare r ∗ (arg14.view.loc (c : Thread nD τ) ↦[arg14.view.set]{fullShare} f)) : sProp 𝕄G)
      ⊢ wp frame (wpE (defs₀ (F := F)) 𝒱 (c : Thread nD τ) bd) E (Scf.Loop.for k0_t4_loop k0_t4_ok (k0_pay117 (F := F), k0_pay117 (F := F), k0_pay117 (F := F), k0_pay117 (F := F), k0_pay117 (F := F), k0_pay117 (F := F), k0_pay117 (F := F), k0_pay117 (F := F)) (k0_t4_body (F := F) i arg2 harg2 arg3 harg3 arg4 harg4 arg5 harg5 arg6 harg6 arg7 harg7 arg8 harg8 arg9 harg9 arg10 harg10 arg11 harg11 arg12 harg12 arg13 harg13 arg14 harg14 v15 v85 v87 v258 v263 v268 v273 v278 v283 v285))
          (fun a => iprop(⌜a = sums4 v85 v258 v263 v268 v273 v278 v283 v285 r⌝ ∗ owns (c : Thread nD τ) arg13 fullShare r ∗ (arg14.view.loc (c : Thread nD τ) ↦[arg14.view.set]{fullShare} (arg14.view.writes (Elt F) f (pcs4 v85 v87 v258 v263 v268 v273 v278 v283 v285 r))))) := by
  unfold owns
  iintro ⟨⟨%f0, %hf0, H0⟩, HW⟩
  obtain rfl := harg13.eq_unread hf0
  iapply (wp_loop frame (wpE (defs₀ (F := F)) 𝒱 (c : Thread nD τ) bd) E _ _ _ k0_t4_ok _ _ _ (pc4 v85 v87 v258 v263 v268 v273 v278 v283 v285 r) (fun k => acc4 v85 v258 v263 v268 v273 v278 v283 v285 (View.ld (rows r) (Rect.unit (s := S4096x256) (k0_off9 k) S32x128.size (k0_off9_inb k))))
    (fun k a L => trip4' (F := F) 𝒱 c bd E i arg2 harg2 arg3 harg3 arg4 harg4 arg5 harg5 arg6 harg6 arg7 harg7 arg8 harg8 arg9 harg9 arg10 harg10 arg11 harg11 arg12 harg12 arg13 harg13 arg14 harg14 v15 v85 v87 v258 v263 v268 v273 v278 v283 v285 r k a (arg14.view.writes (Elt F) f L)))
  isplitl [H0 HW]
  · dsimp only
    isplitl [H0]; · iexact H0
    iexact HW
  iintro %acc Hinv
  dsimp only
  icases Hinv with ⟨%ha, H0, HW⟩
  isplitr; · ipureintro; exact ha
  isplitl [H0]
  · iexists _; isplitr; · ipureintro; exact harg13.read_unread _
    iexact H0
  iexact HW

/-! ## The codes turned back -/

/-- The block of columns trip `k` writes, from the code matrix `q`. -/
def pc5 (q : Vec F S4096x256 .fp8e4m3) (k : Fin k0_t5_loop.trips) : View.Piece (Elt F) S1x256x4096 .fp8e4m3 :=
  ⟨(Rect.unit (s := S1x256x4096) (k0_off11 k) S1x256x128.size (k0_off11_inb k)), k0_pay5 (View.ld q (Rect.unit (s := S4096x256) (k0_off10 k) S128x256.size (k0_off10_inb k)))⟩

/-- All it writes. -/
def pcs5 (q : Vec F S4096x256 .fp8e4m3) : List (View.Piece (Elt F) S1x256x4096 .fp8e4m3) := loopList (pc5 q) k0_t5_loop.trips

/-- One trip at any contents. -/
theorem trip5 (X : BufTy.Contents (Elt F) arg14.view.ty) (k : Fin k0_t5_loop.trips) (f : BufTy.Contents (Elt F) arg9.view.ty) :
    (iprop((arg14.view.loc (c : Thread nD τ) ↦[arg14.view.set]{fullShare} X) ∗ (arg9.view.loc (c : Thread nD τ) ↦[arg9.view.set]{fullShare} f)) : sProp 𝕄G)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => iprop((arg14.view.loc (c : Thread nD τ) ↦[arg14.view.set]{fullShare} X) ∗ (arg9.view.loc (c : Thread nD τ) ↦[arg9.view.set]{fullShare} (arg9.view.writes (Elt F) f [⟨(Rect.unit (s := S1x256x4096) (k0_off11 k) S1x256x128.size (k0_off11_inb k)), k0_pay5 (View.readAt (Elt F) arg14.view (Rect.unit (s := S4096x256) (k0_off10 k) S128x256.size (k0_off10_inb k)).toLoadRect X)⟩])))) := by
  have hk : k.val < 32 := Nat.lt_of_lt_of_le k.isLt k0_t5_abs.2.1
  unfold k0_t5_body
  iintro ⟨HR, HW⟩
  sl_exec
  sl_step
  sl_close

theorem trip5' (q : Vec F S4096x256 .fp8e4m3) (k : Fin k0_t5_loop.trips) (f : BufTy.Contents (Elt F) arg9.view.ty) :
    (iprop((arg14.view.loc (c : Thread nD τ) ↦[arg14.view.set]{fullShare} (harg14.unread q)) ∗ (arg9.view.loc (c : Thread nD τ) ↦[arg9.view.set]{fullShare} f)) : sProp 𝕄G)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => iprop((arg14.view.loc (c : Thread nD τ) ↦[arg14.view.set]{fullShare} (harg14.unread q)) ∗ (arg9.view.loc (c : Thread nD τ) ↦[arg9.view.set]{fullShare} (arg9.view.writes (Elt F) f [pc5 q k])))) := by
  have h := trip5 (F := F) 𝒱 c bd E i arg2 harg2 arg3 harg3 arg4 harg4 arg5 harg5 arg6 harg6 arg7 harg7 arg8 harg8 arg9 harg9 arg10 harg10 arg11 harg11 arg12 harg12 arg13 harg13 arg14 harg14 (harg14.unread q) k f
  simp only [View.readAt_eq_ld, Memref.IsWhole.read_unread] at h
  exact h

theorem cover5 (q : Vec F S4096x256 .fp8e4m3) : ∀ y : S1x256x4096.Idx, ∃ p ∈ pcs5 (F := F) q, y ∈ p.1.set :=
  View.cover_of_tiledL _ S1x256x128.size (by sl_kernel_rfl)

/-- The loop: it leaves the block of codes. -/
theorem loop5 (q : Vec F S4096x256 .fp8e4m3) :
    (iprop(owns (c : Thread nD τ) arg14 fullShare q ∗ (∃ d, owns (c : Thread nD τ) arg9 fullShare d)) : sProp 𝕄G)
      ⊢ wp frame (wpE (defs₀ (F := F)) 𝒱 (c : Thread nD τ) bd) E (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14))
          (fun _ => iprop(owns (c : Thread nD τ) arg14 fullShare q ∗ owns (c : Thread nD τ) arg9 fullShare (View.canon (pcs5 q)))) := by
  unfold owns
  iintro ⟨⟨%f0, %hf0, H0⟩, ⟨%d, %f, -, HW⟩⟩
  obtain rfl := harg14.eq_unread hf0
  iapply (wp_loop_unit frame (wpE (defs₀ (F := F)) 𝒱 (c : Thread nD τ) bd) E _ _ _ k0_t5_ok _ _ (pc5 q)
    (fun k L => trip5' (F := F) 𝒱 c bd E i arg2 harg2 arg3 harg3 arg4 harg4 arg5 harg5 arg6 harg6 arg7 harg7 arg8 harg8 arg9 harg9 arg10 harg10 arg11 harg11 arg12 harg12 arg13 harg13 arg14 harg14 q k (arg9.view.writes (Elt F) f L)))
  isplitl [H0 HW]
  · dsimp only
    isplitl [H0]; · iexact H0
    iexact HW
  iintro %acc Hinv
  dsimp only
  icases Hinv with ⟨H0, HW⟩
  isplitl [H0]
  · iexists _; isplitr; · ipureintro; exact harg14.read_unread _
    iexact H0
  iexists _; isplitr; swap; · iexact HW
  ipureintro; exact View.read_writes_eq_canon _ _ _ (cover5 q)

end Cert.KernelIdeal.Conv

end
-- ==== Proof.RunKernelIdeal.lean ====
module

public import proofs.«01_k».proof.Proof.ConvertKernelIdeal
public import Idealize.ShloMosaic.Lib.Pipeline.ValueKit

/-!
# The body of `KernelIdeal` once, on any buffers

What the body leaves in its three output buffers, as functions of the blocks it was given, and the proof that it does. The
maxima `v3` of the rotated block determine the eight scales of every row (`sc0` … `sc7`, in the order of the ratios); the
scales, the ratio indices and the rotated block determine the codes and the errors.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof

variable {F : FTy → Type} [FloatOps F]

local notation "𝕄G" => MT nD τ sig Unit (Elt F) ℕ (UR sig nD τ) ℕ

/-! ## The scales, and what the body leaves -/

def sc0 (v3 : FVec F S8x256 .f32) : FVec F S1x256 .f32 := k0_pay57 v3
def sc1 (v3 : FVec F S8x256 .f32) : FVec F S1x256 .f32 := k0_pay58 v3
def sc2 (v3 : FVec F S8x256 .f32) : FVec F S1x256 .f32 := k0_pay62 (k0_pay59 v3) (k0_pay60 v3) (k0_pay61 (F := F))
def sc3 (v3 : FVec F S8x256 .f32) : FVec F S1x256 .f32 := k0_pay63 (k0_pay56 v3)
def sc4 (v3 : FVec F S8x256 .f32) : FVec F S1x256 .f32 := k0_pay64 (k0_pay56 v3)
def sc5 (v3 : FVec F S8x256 .f32) : FVec F S1x256 .f32 := k0_pay65 (k0_pay56 v3)
def sc6 (v3 : FVec F S8x256 .f32) : FVec F S1x256 .f32 := k0_pay69 (k0_pay66 (k0_pay56 v3)) (k0_pay67 (k0_pay56 v3)) (k0_pay68 (F := F))
def sc7 (v3 : FVec F S8x256 .f32) : FVec F S1x256 .f32 := k0_pay70 (k0_pay56 v3)

/-- The rotated block. -/
def rot (x0 : Vec F S1x256x4096 .fp8e4m3) (x1 : Vec F S1x1x2x4096 .f32) (x2 : Vec F S1x1x4096 .f32) (x3 : Vec F S256x256 .bf16) (x4 : Vec F S512x512 .bf16) : Vec F S64x64x256 .f32 := View.canon (pcs2 x4 (View.canon (pcs1 x0 x1 x2 x3)))

/-- Its maxima. -/
def mx (x0 : Vec F S1x256x4096 .fp8e4m3) (x1 : Vec F S1x1x2x4096 .f32) (x2 : Vec F S1x1x4096 .f32) (x3 : Vec F S256x256 .bf16) (x4 : Vec F S512x512 .bf16) : FVec F S8x256 .f32 := maxs x4 (View.canon (pcs1 x0 x1 x2 x3))

/-- The ratio indices as loaded. -/
def ridxOf (x6 : Vec F S1x1x256 .i32) : Vec F S1x1x256 .i32 := View.ld x6 (Rect.unit (s := S1x1x256) ![0, 0, 0] S1x1x256.size (by decide))

/-- The sums of squares of the two halves of the lanes. -/
def sumsA (v3 : FVec F S8x256 .f32) (r : Vec F S64x64x256 .f32) : Acc F := sums3 (k0_pay73 (sc0 v3) (Scalar.ofBits .f32 0x3F800000#32)) (k0_pay74 (sc1 v3)) (k0_pay75 (sc2 v3)) (k0_pay76 (sc3 v3)) (k0_pay77 (sc4 v3)) (k0_pay78 (sc5 v3)) (k0_pay79 (sc6 v3)) (k0_pay80 (sc7 v3)) r
def sumsB (v3 : FVec F S8x256 .f32) (r : Vec F S64x64x256 .f32) : Acc F := sums4 (sc7 v3) (k0_pay106 (sc0 v3)) (k0_pay107 (sc1 v3)) (k0_pay108 (sc2 v3)) (k0_pay109 (sc3 v3)) (k0_pay110 (sc4 v3)) (k0_pay111 (sc5 v3)) (k0_pay112 (sc6 v3)) r

/-- The code matrix. -/
def codePieces (v3 : FVec F S8x256 .f32) (v86 : Vec F S1x1x256 .i32) (r : Vec F S64x64x256 .f32) : List (View.Piece (Elt F) S4096x256 .fp8e4m3) :=
  pcs4 (sc7 v3) (k0_pay71 v86) (k0_pay106 (sc0 v3)) (k0_pay107 (sc1 v3)) (k0_pay108 (sc2 v3)) (k0_pay109 (sc3 v3)) (k0_pay110 (sc4 v3)) (k0_pay111 (sc5 v3)) (k0_pay112 (sc6 v3)) r ++ pcs3 (k0_pay71 v86) (k0_pay73 (sc0 v3) (Scalar.ofBits .f32 0x3F800000#32)) (k0_pay74 (sc1 v3)) (k0_pay75 (sc2 v3)) (k0_pay76 (sc3 v3)) (k0_pay77 (sc4 v3)) (k0_pay78 (sc5 v3)) (k0_pay79 (sc6 v3)) (k0_pay80 (sc7 v3)) (k0_pay81 (k0_pay71 v86)) (k0_pay82 (k0_pay71 v86)) (k0_pay83 (k0_pay71 v86)) r
def codeMat (v3 : FVec F S8x256 .f32) (v86 : Vec F S1x1x256 .i32) (r : Vec F S64x64x256 .f32) : Vec F S4096x256 .fp8e4m3 := View.canon (codePieces v3 v86 r)

/-- The block of scales the body leaves. -/
def scaleBlk (v3 : FVec F S8x256 .f32) (v86 : Vec F S1x1x256 .i32) : Vec F S1x1x256 .f32 :=
  k0_pay72 (k0_pay56 v3) (sc0 v3) (sc1 v3) (sc2 v3) (sc3 v3) (sc4 v3) (sc5 v3) (k0_pay66 (k0_pay56 v3)) (k0_pay67 (k0_pay56 v3)) (k0_pay68 (F := F)) v86

/-- The sixteen rows of errors the body writes: a half of the lanes of one ratio each. -/
def errPieces (v3 : FVec F S8x256 .f32) (a b : Acc F) : List (View.Piece (Elt F) S1x8x256 .f32) :=
  [⟨Rect.unit (s := S1x8x256) ![0, 7, 128] S1x1x128.size (by decide), k0_pay4 (sc7 v3) b.2.2.2.2.2.2.2⟩,
   ⟨Rect.unit (s := S1x8x256) ![0, 6, 128] S1x1x128.size (by decide), k0_pay3 (sc6 v3) b.2.2.2.2.2.2.1⟩,
   ⟨Rect.unit (s := S1x8x256) ![0, 5, 128] S1x1x128.size (by decide), k0_pay2 (sc5 v3) b.2.2.2.2.2.1⟩,
   ⟨Rect.unit (s := S1x8x256) ![0, 4, 128] S1x1x128.size (by decide), k0_pay1 (k0_pay131 (sc4 v3) b.2.2.2.2.1)⟩,
   ⟨Rect.unit (s := S1x8x256) ![0, 3, 128] S1x1x128.size (by decide), k0_pay130 (sc3 v3) b.2.2.2.1⟩,
   ⟨Rect.unit (s := S1x8x256) ![0, 2, 128] S1x1x128.size (by decide), k0_pay129 (sc2 v3) b.2.2.1⟩,
   ⟨Rect.unit (s := S1x8x256) ![0, 1, 128] S1x1x128.size (by decide), k0_pay128 (sc1 v3) b.2.1⟩,
   ⟨Rect.unit (s := S1x8x256) ![0, 0, 128] S1x1x128.size (by decide), k0_pay127 b.1 (k0_pay126 (sc0 v3))⟩,
   ⟨Rect.unit (s := S1x8x256) ![0, 7, 0] S1x1x128.size (by decide), k0_pay105 (sc7 v3) a.2.2.2.2.2.2.2⟩,
   ⟨Rect.unit (s := S1x8x256) ![0, 6, 0] S1x1x128.size (by decide), k0_pay104 (k0_pay102 a.2.2.2.2.2.2.1) (k0_pay103 (sc6 v3))⟩,
   ⟨Rect.unit (s := S1x8x256) ![0, 5, 0] S1x1x128.size (by decide), k0_pay101 (sc5 v3) a.2.2.2.2.2.1⟩,
   ⟨Rect.unit (s := S1x8x256) ![0, 4, 0] S1x1x128.size (by decide), k0_pay100 (sc4 v3) a.2.2.2.2.1⟩,
   ⟨Rect.unit (s := S1x8x256) ![0, 3, 0] S1x1x128.size (by decide), k0_pay99 (sc3 v3) a.2.2.2.1⟩,
   ⟨Rect.unit (s := S1x8x256) ![0, 2, 0] S1x1x128.size (by decide), k0_pay98 (sc2 v3) a.2.2.1⟩,
   ⟨Rect.unit (s := S1x8x256) ![0, 1, 0] S1x1x128.size (by decide), k0_pay97 (k0_pay96 (sc1 v3) a.2.1)⟩,
   ⟨Rect.unit (s := S1x8x256) ![0, 0, 0] S1x1x128.size (by decide), k0_pay95 (sc0 v3) a.1⟩]

theorem errCover (v3 : FVec F S8x256 .f32) (a b : Acc F) : ∀ y : S1x8x256.Idx, ∃ p ∈ errPieces v3 a b, y ∈ p.1.set :=
  View.cover_of_tiledL _ S1x1x128.size (by sl_kernel_rfl)

theorem codeCover (v3 : FVec F S8x256 .f32) (v86 : Vec F S1x1x256 .i32) (r : Vec F S64x64x256 .f32) :
    ∀ y : S4096x256.Idx, ∃ p ∈ codePieces v3 v86 r, y ∈ p.1.set :=
  View.cover_of_tiledL _ S32x128.size (by sl_kernel_rfl)

/-! ## The statements up to the scales of the first ratios: the two products -/

/-- The first statements of the body: both products, and the first payloads of their maxima. -/
theorem part6 (𝒱 : Variants) (c : Dev nD) (bd : Option 𝒱.V) (E : Set ℕ) (i : grid0.Coords) (arg2 : Memref sig .tc .vmem S1x256x4096 .fp8e4m3) (harg2 : arg2.IsWhole) (arg3 : Memref sig .tc .vmem S1x1x2x4096 .f32) (harg3 : arg3.IsWhole) (arg4 : Memref sig .tc .vmem S1x1x4096 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S256x256 .bf16) (harg7 : arg7.IsWhole) (arg8 : Memref sig .tc .vmem S1x1x256 .i32) (harg8 : arg8.IsWhole) (arg9 : Memref sig .tc .vmem S1x256x4096 .fp8e4m3) (harg9 : arg9.IsWhole) (arg10 : Memref sig .tc .vmem S1x1x256 .f32) (harg10 : arg10.IsWhole) (arg11 : Memref sig .tc .vmem S1x8x256 .f32) (harg11 : arg11.IsWhole) (arg12 : Memref sig .tc .vmem S64x64x256 .f32) (harg12 : arg12.IsWhole) (arg13 : Memref sig .tc .vmem S64x64x256 .f32) (harg13 : arg13.IsWhole) (arg14 : Memref sig .tc .vmem S4096x256 .fp8e4m3) (harg14 : arg14.IsWhole) (x0 : Vec F S1x256x4096 .fp8e4m3) (x1 : Vec F S1x1x2x4096 .f32) (x2 : Vec F S1x1x4096 .f32) (x3 : Vec F S256x256 .bf16) (x4 : Vec F S512x512 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg12 fullShare d) ∗ (∃ d, owns (c : Thread nD τ) arg13 fullShare d)) : sProp 𝕄G)
      ⊢ wp frame (wpE (defs₀ (F := F)) 𝒱 (c : Thread nD τ) bd) E (k0_part6 (F := F) i arg2 harg2 arg3 harg3 arg4 harg4 arg5 harg5 arg6 harg6 arg7 harg7 arg8 harg8 arg9 harg9 arg10 harg10 arg11 harg11 arg12 harg12 arg13 harg13 arg14 harg14)
          (fun v => iprop(⌜v = ⟨k0_pay56 (mx x0 x1 x2 x3 x4), k0_pay57 (mx x0 x1 x2 x3 x4), k0_pay58 (mx x0 x1 x2 x3 x4), k0_pay59 (mx x0 x1 x2 x3 x4), k0_pay60 (mx x0 x1 x2 x3 x4), k0_pay61 (F := F)⟩⌝
            ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg12 fullShare d) ∗ owns (c : Thread nD τ) arg13 fullShare (rot x0 x1 x2 x3 x4))) := by
  simp only [k0_part6_eq_skeleton]; unfold k0_part6_skel
  iintro ⟨H2, H3, H4, H5, H6, H12, H13⟩
  iapply (exec_cut _ _ _ (loop1 (F := F) 𝒱 c bd E i arg2 harg2 arg3 harg3 arg4 harg4 arg5 harg5 arg6 harg6 arg7 harg7 arg8 harg8 arg9 harg9 arg10 harg10 arg11 harg11 arg12 harg12 arg13 harg13 arg14 harg14 x0 x1 x2 x3)) $$ [H2 H3 H4 H5 H12]
  · isplitl [H2]; · iexact H2
    isplitl [H3]; · iexact H3
    isplitl [H4]; · iexact H4
    isplitl [H5]; · iexact H5
    iexact H12
  iintro %u ⟨H2, H3, H4, H5, H12⟩
  iapply (exec_cut _ _ _ (loop2 (F := F) 𝒱 c bd E i arg2 harg2 arg3 harg3 arg4 harg4 arg5 harg5 arg6 harg6 arg7 harg7 arg8 harg8 arg9 harg9 arg10 harg10 arg11 harg11 arg12 harg12 arg13 harg13 arg14 harg14 x4 (View.canon (pcs1 x0 x1 x2 x3)))) $$ [H6 H12 H13]
  · isplitl [H6]; · iexact H6
    isplitl [H12]; · iexact H12
    iexact H13
  iintro %v ⟨%hv, H6, H12, H13⟩
  subst hv
  sl_step
  isplitr; · ipureintro; rfl
  isplitl [H2]; · iexact H2
  isplitl [H3]; · iexact H3
  isplitl [H4]; · iexact H4
  isplitl [H5]; · iexact H5
  isplitl [H6]; · iexact H6
  isplitl [H12]; · iexists _; iexact H12
  iexact H13

/-- What a buffer held at a value holds: contents that read as the value. -/
theorem owns_open (c : Dev nD) {sp : Space} {S : Shape} {e : EltTy} (arg : Memref sig .tc sp S e) (x : S.Idx → Elt F e) :
    (owns (c : Thread nD τ) arg fullShare x : sProp 𝕄G) ⊢ iprop(∃ f, ⌜arg.view.read (Elt F) f = x⌝ ∗ (arg.view.loc (c : Thread nD τ) ↦[arg.view.set]{fullShare} f)) := by
  unfold owns; exact .rfl

/-- The block of scales is written whole. -/
theorem read_scale (arg10 : Memref sig .tc .vmem S1x1x256 .f32) (f : BufTy.Contents (Elt F) arg10.view.ty) (x : Vec F S1x1x256 .f32) :
    arg10.view.read (Elt F) (arg10.view.writes (Elt F) f [⟨Rect.unit (s := S1x1x256) ![0, 0, 0] S1x1x256.size (by decide), x⟩]) = x := by
  exact (View.read_writes_eq_canon arg10.view f _ (View.cover_of_tiledL _ S1x1x256.size (by sl_kernel_rfl))).trans (View.canon_cons_unit_lit _ _ _ (by decide))

/-! ## The whole body -/

set_option maxHeartbeats 4000000 in
/-- The body: the inputs' buffers stay, the outputs' hold what the functions above say. -/
theorem bodyRun (c : Dev nD) (E : Set ℕ) (i : grid0.Coords) (arg2 : Memref sig .tc .vmem S1x256x4096 .fp8e4m3) (harg2 : arg2.IsWhole) (arg3 : Memref sig .tc .vmem S1x1x2x4096 .f32) (harg3 : arg3.IsWhole) (arg4 : Memref sig .tc .vmem S1x1x4096 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S256x256 .bf16) (harg7 : arg7.IsWhole) (arg8 : Memref sig .tc .vmem S1x1x256 .i32) (harg8 : arg8.IsWhole) (arg9 : Memref sig .tc .vmem S1x256x4096 .fp8e4m3) (harg9 : arg9.IsWhole) (arg10 : Memref sig .tc .vmem S1x1x256 .f32) (harg10 : arg10.IsWhole) (arg11 : Memref sig .tc .vmem S1x8x256 .f32) (harg11 : arg11.IsWhole) (arg12 : Memref sig .tc .vmem S64x64x256 .f32) (harg12 : arg12.IsWhole) (arg13 : Memref sig .tc .vmem S64x64x256 .f32) (harg13 : arg13.IsWhole) (arg14 : Memref sig .tc .vmem S4096x256 .fp8e4m3) (harg14 : arg14.IsWhole) (x0 : Vec F S1x256x4096 .fp8e4m3) (x1 : Vec F S1x1x2x4096 .f32) (x2 : Vec F S1x1x4096 .f32) (x3 : Vec F S256x256 .bf16) (x4 : Vec F S512x512 .bf16) (x6 : Vec F S1x1x256 .i32) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)) : sProp 𝕄G)
      ⊢ wp frame (wpE (defs₀ (F := F)) Variants.none (c : Thread nD τ) none) E (cc0_in_gate (F := F) i arg2 harg2 arg3 harg3 arg4 harg4 arg5 harg5 arg6 harg6 arg7 harg7 arg8 harg8 arg9 harg9 arg10 harg10 arg11 harg11 arg12 harg12 arg13 harg13 arg14 harg14)
          (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x6
            ∗ owns (c : Thread nD τ) arg9 fullShare (View.canon (pcs5 (codeMat (mx x0 x1 x2 x3 x4) (ridxOf x6) (rot x0 x1 x2 x3 x4))))
            ∗ owns (c : Thread nD τ) arg10 fullShare (scaleBlk (mx x0 x1 x2 x3 x4) (ridxOf x6))
            ∗ owns (c : Thread nD τ) arg11 fullShare (View.canon (errPieces (mx x0 x1 x2 x3 x4) (sumsA (mx x0 x1 x2 x3 x4) (rot x0 x1 x2 x3 x4)) (sumsB (mx x0 x1 x2 x3 x4) (rot x0 x1 x2 x3 x4))))
            ∗ (∃ d, owns (c : Thread nD τ) arg12 fullShare d) ∗ (∃ d, owns (c : Thread nD τ) arg13 fullShare d) ∗ (∃ d, owns (c : Thread nD τ) arg14 fullShare d))) := by
  simp only [cc0_in_gate_eq_skeleton]; unfold cc0_in_gate_skel
  iintro ⟨H2, H3, H4, H5, H6, H8, H9, H10, H11, H12, H13, H14⟩
  iapply (exec_cut _ _ _ (part6 (F := F) Variants.none c none E i arg2 harg2 arg3 harg3 arg4 harg4 arg5 harg5 arg6 harg6 arg7 harg7 arg8 harg8 arg9 harg9 arg10 harg10 arg11 harg11 arg12 harg12 arg13 harg13 arg14 harg14 x0 x1 x2 x3 x4)) $$ [H2 H3 H4 H5 H6 H12 H13]
  · isplitl [H2]; · iexact H2
    isplitl [H3]; · iexact H3
    isplitl [H4]; · iexact H4
    isplitl [H5]; · iexact H5
    isplitl [H6]; · iexact H6
    isplitl [H12]; · iexact H12
    iexact H13
  iintro %v ⟨%hv, H2, H3, H4, H5, H6, H12, H13⟩
  subst hv
  generalize mx x0 x1 x2 x3 x4 = v3
  generalize rot x0 x1 x2 x3 x4 = r
  simp only [k0_part7_eq_skeleton, k0_part8_eq_skeleton, k0_part9_eq_skeleton, k0_part10_eq_skeleton, k0_part11_eq_skeleton, k0_part12_eq_skeleton, k0_part13_eq_skeleton, k0_part14_eq_skeleton]
  ihave H8 := (owns_open c arg8 x6) $$ H8
  icases H8 with ⟨%f8, %hf8, H8⟩
  obtain rfl := harg8.eq_unread hf8
  icases H9 with ⟨%d9, H9⟩
  icases H10 with ⟨%d10, H10⟩
  ihave H10 := (owns_open c arg10 d10) $$ H10
  icases H10 with ⟨%f10, -, H10⟩
  icases H11 with ⟨%d11, H11⟩
  ihave H11 := (owns_open c arg11 d11) $$ H11
  icases H11 with ⟨%f11, -, H11⟩
  icases H14 with ⟨%d14, H14⟩
  ihave H14 := (owns_open c arg14 d14) $$ H14
  icases H14 with ⟨%f14, -, H14⟩
  sl_exec
  iapply (exec_cut _ _ _ (loop3 (F := F) Variants.none c none E i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ r _)) $$ [H13 H14]
  · isplitl [H13]; · iexact H13
    iexact H14
  iintro %a ⟨%ha, H13, H14⟩
  obtain ⟨a0, a1, a2, a3, a4, a5, a6, a7⟩ := a
  sl_exec
  iapply (exec_cut _ _ _ (loop4 (F := F) Variants.none c none E i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ r _)) $$ [H13 H14]
  · isplitl [H13]; · iexact H13
    iexact H14
  iintro %b ⟨%hb, H13, H14⟩
  obtain ⟨b0, b1, b2, b3, b4, b5, b6, b7⟩ := b
  sl_exec
  have h86 : View.readAt (Elt F) arg8.view (Rect.unit (s := S1x1x256) ![0, 0, 0] S1x1x256.size (by decide)).toLoadRect (harg8.unread x6) = ridxOf x6 := by
    rw [View.readAt_eq_ld, harg8.read_unread]; rfl
  have ha' : (a0, a1, a2, a3, a4, a5, a6, a7) = sumsA v3 r := ha
  have hb' : (b0, b1, b2, b3, b4, b5, b6, b7) = sumsB v3 r := hb
  have hcode : View.canon (codePieces v3 (View.readAt (Elt F) arg8.view (Rect.unit (s := S1x1x256) ![0, 0, 0] S1x1x256.size (by decide)).toLoadRect (harg8.unread x6)) r) = codeMat v3 (ridxOf x6) r := by
    rw [h86]; rfl
  have hscale : k0_pay72 (k0_pay56 v3) (sc0 v3) (sc1 v3) (sc2 v3) (sc3 v3) (sc4 v3) (sc5 v3) (k0_pay66 (k0_pay56 v3)) (k0_pay67 (k0_pay56 v3)) (k0_pay68 (F := F))
      (View.readAt (Elt F) arg8.view (Rect.unit (s := S1x1x256) ![0, 0, 0] S1x1x256.size (by decide)).toLoadRect (harg8.unread x6)) = scaleBlk v3 (ridxOf x6) := by
    rw [h86]; rfl
  iapply (exec_cut _ _ _ (loop5 (F := F) Variants.none c none E i arg2 harg2 arg3 harg3 arg4 harg4 arg5 harg5 arg6 harg6 arg7 harg7 arg8 harg8 arg9 harg9 arg10 harg10 arg11 harg11 arg12 harg12 arg13 harg13 arg14 harg14 (codeMat v3 (ridxOf x6) r))) $$ [H14 H9]
  · isplitl [H14]
    · unfold owns
      iexists _; isplitr; swap; · iexact H14
      ipureintro
      rw [← View.writes_append]
      exact (View.read_writes_eq_canon arg14.view f14 _ (codeCover v3 _ r)).trans hcode
    iexists _; iexact H9
  iintro %u ⟨H14, H9⟩
  sl_step
  isplitl [H2]; · iexact H2
  isplitl [H3]; · iexact H3
  isplitl [H4]; · iexact H4
  isplitl [H5]; · iexact H5
  isplitl [H6]; · iexact H6
  isplitl [H8]
  · unfold owns
    iexists _; isplitr; · ipureintro; exact harg8.read_unread _
    iexact H8
  isplitl [H9]; · iexact H9
  isplitl [H10]
  · unfold owns
    iexists _; isplitr; swap; · iexact H10
    ipureintro
    exact (read_scale arg10 _ _).trans hscale
  isplitl [H11]
  · unfold owns
    iexists _; isplitr; swap; · iexact H11
    ipureintro
    rw [← ha', ← hb']
    exact View.read_writes_eq_canon arg11.view _ _ (errCover v3 (a0, a1, a2, a3, a4, a5, a6, a7) (b0, b1, b2, b3, b4, b5, b6, b7))
  isplitl [H12]; · iexact H12
  isplitl [H13]; · iexists _; iexact H13
  iexists _; iexact H14

end Cert.KernelIdeal.Conv

end
-- ==== Proof.FrameKernelIdeal.lean ====
module

public import proofs.«01_k».proof.Proof.RunKernelIdeal
public import Idealize.ShloMosaic.Lib.Claim

/-!
# `KernelIdeal` runs, and leaves its arguments

The body's run at every grid point makes the proof data of the pipeline, and the library's theorem on pipelines makes of it
the run of the whole program: every output array holds at the end what the blocks of the points leave in it, every argument
what it held.
-/

@[expose] public section

-- membership in a rectangle of production extents (`View.cover_of_tiled`): the elaborator's structural look
-- recurses once per coordinate of the long axes
set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers of a grid point -/

abbrev ms0_0 (t : Fin cfg0.N) : Memref sig .tc .vmem S1x256x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256 .f32 := win0_9.stage (cfg0.slots t 9)
abbrev hs0_9 (t : Fin cfg0.N) : (ms0_9 t).IsWhole := hstage0_9 ((cfg0.slots t 9).cast nbuf0_9)
abbrev scM0_0 : Memref sig .tc .vmem S64x64x256 .f32 := Memref.whole cc0_scratch0
abbrev scM0_1 : Memref sig .tc .vmem S64x64x256 .f32 := Memref.whole cc0_scratch1
abbrev scM0_2 : Memref sig .tc .vmem S4096x256 .fp8e4m3 := Memref.whole cc0_scratch2

/-- The invariant of the pipeline: the scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the body leaves at each grid point -/

/-- The rotated block at point `t`, and its maxima. -/
def rotAt (c : Dev nD) (t : Fin cfg0.N) : Vec F S64x64x256 .f32 := rot (iblk m c 0 t) (iblk m c 1 t) (iblk m c 2 t) (iblk m c 3 t) (iblk m c 4 t)
def mxAt (c : Dev nD) (t : Fin cfg0.N) : FVec F S8x256 .f32 := mx (iblk m c 0 t) (iblk m c 1 t) (iblk m c 2 t) (iblk m c 3 t) (iblk m c 4 t)

/-- The three blocks it leaves: codes, scales, errors. -/
def codesAt (c : Dev nD) (t : Fin cfg0.N) : Vec F S1x256x4096 .fp8e4m3 := View.canon (pcs5 (codeMat (mxAt m c t) (ridxOf (iblk m c 6 t)) (rotAt m c t)))
def scaleAt (c : Dev nD) (t : Fin cfg0.N) : Vec F S1x1x256 .f32 := scaleBlk (mxAt m c t) (ridxOf (iblk m c 6 t))
def errAt (c : Dev nD) (t : Fin cfg0.N) : Vec F S1x8x256 .f32 := View.canon (errPieces (mxAt m c t) (sumsA (mxAt m c t) (rotAt m c t)) (sumsB (mxAt m c t) (rotAt m c t)))

/-! ## The pipeline's proof data -/

/-- The proof data of the one pipeline: each input's buffer keeps its block, the outputs' hold the three blocks above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (codesAt m c t)
    | ⟨8, _⟩ => (scaleAt m c t)
    | ⟨9, _⟩ => (errAt m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Every input's buffer is left at the point's block. -/
theorem after_in (c : Dev nD) : (∀ t, (dats m 0 c).after 0 t = iblk m c 0 t) ∧ (∀ t, (dats m 0 c).after 1 t = iblk m c 1 t)
    ∧ (∀ t, (dats m 0 c).after 2 t = iblk m c 2 t) ∧ (∀ t, (dats m 0 c).after 3 t = iblk m c 3 t) ∧ (∀ t, (dats m 0 c).after 4 t = iblk m c 4 t)
    ∧ (∀ t, (dats m 0 c).after 5 t = iblk m c 5 t) ∧ ∀ t, (dats m 0 c).after 6 t = iblk m c 6 t := by
  refine ⟨?_, ?_, ?_, ?_, ?_, ?_, ?_⟩ <;> intro t <;> dsimp only [dats]

/-- The outputs' at the three blocks above. -/
theorem after_out (c : Dev nD) (t : Fin cfg0.N) : (dats m 0 c).after 7 t = codesAt m c t ∧ (dats m 0 c).after 8 t = scaleAt m c t
    ∧ (dats m 0 c).after 9 t = errAt m c t := by
  refine ⟨?_, ?_, ?_⟩ <;> dsimp only [dats]

/-! ## The body obligation, at a generic point -/

/-- What the body is entered with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨h0, h1, h2, h3, h4, h5, h6⟩ := after_in m c
  obtain ⟨h7, h8, h9⟩ := after_out m c t
  simp only [before0_0_of m _ (A_eq m c 0) h0, before0_1_of m _ (A_eq m c 1) h1, before0_2_of m _ (A_eq m c 2) h2,
    before0_3_of m _ (A_eq m c 3) h3, before0_4_of m _ (A_eq m c 4) h4, before0_5_of m _ (A_eq m c 5) h5, before0_6_of m _ (A_eq m c 6) h6]
  rw [show (dats m 0 c).Φ t.succ = (dats m 0 c).Φ t.castSucc from rfl,
    show (dats m 0 c).owesAt () t.succ = (dats m 0 c).owesAt () t.castSucc from rfl,
    h0, h1, h2, h3, h4, h5, h6, h7, h8, h9]
  rw [show (dats m 0 c).Φ t.castSucc = Pipeline.ΦA spec0 c from rfl, PhiA0_eq]
  unfold codesAt scaleAt errAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) Variants.none (c : Thread nD τ) none) Set.univ)
  isplitl [H0 H1 H2 H3 H4 H6 H7 H8 H9 HS0 HS1 HS2]
  · iapply (bodyRun c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 6 t))
    isplitl [H0]; · iexact H0
    isplitl [H1]; · iexact H1
    isplitl [H2]; · iexact H2
    isplitl [H3]; · iexact H3
    isplitl [H4]; · iexact H4
    isplitl [H6]; · iexact H6
    isplitl [H7]; · iexists _; iexact H7
    isplitl [H8]; · iexists _; iexact H8
    isplitl [H9]; · iexists _; iexact H9
    isplitl [HS0]; · iexact HS0
    isplitl [HS1]; · iexact HS1
    iexact HS2
  iintro %u ⟨H0, H1, H2, H3, H4, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Conv

end
-- ==== Proof.Twin.lean ====
module

public import proofs.«01_k».proof.Proof.FrameKernelIdeal
public import proofs.«01_k».proof.Proof.Gen.Kernel

/-!
# `Kernel` and `KernelIdeal` are the same program

No line of `KernelIdeal` was rewritten, so the two programs differ in nothing but the names of their definitions, and what is
proved of the runs of one, at any reading of the floats, holds of the other. The equation of the body tables and that of the
two `main`s are enough.
-/

@[expose] public section

set_option maxRecDepth 16384

noncomputable section

namespace Cert.Twin

open Idealize.ShloMosaic Idealize.ShloMosaic.TcCoe

variable {F : FTy → Type} [FloatOps F]

set_option maxHeartbeats 4000000 in
/-- The two tables of kernel bodies are equal: each has one label, and the bodies under it are the same text. -/
theorem defs₀_eq : Cert.Kernel.defs₀ (F := F) = Cert.KernelIdeal.defs₀ (F := F) := by
  refine congrArg Defs.onTc (funext fun l => funext fun a => ?_)
  obtain rfl : l = (0 : Fin 1) := Subsingleton.elim (α := Fin 1) _ _
  obtain ⟨t, s⟩ := a
  rfl

/-- So are the tables with the pipeline's own labels. -/
theorem defs_eq : Cert.Kernel.defs (F := F) = Cert.KernelIdeal.defs (F := F) :=
  congrArg (Pipeline.defs (Cert.KernelIdeal.pcfgs (F := F))) defs₀_eq

set_option maxHeartbeats 4000000 in
/-- And so are the host programs. -/
theorem main_eq : Cert.Kernel.main (F := F) = Cert.KernelIdeal.main (F := F) := by
  unfold Cert.Kernel.main Cert.KernelIdeal.main
  rfl

end Cert.Twin

namespace Cert.Kernel.Conv

open Cert.Kernel
open Idealize.ShloMosaic Idealize.ShloMosaic.TcCoe

variable {F : FTy → Type} [FloatOps F]

/-- The frame: the arguments end unchanged, and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have h := Cert.KernelIdeal.Conv.frame (F := F) m ρ
  rw [← Cert.Twin.defs_eq, ← Cert.Twin.main_eq] at h
  exact h

end Cert.Kernel.Conv

end
-- ==== Proof.PlainRun.lean ====
module

public import proofs.«01_k».proof.Proof.Gen.ReferenceIdeal.Frame
public import Idealize.ShloMosaic.Lib.Pipeline.ValueKit

/-!
# The reference's run

The reference is one call on whole arrays: each result array holds after the run what the body makes of the argument arrays,
and the arguments are as they were.
-/

@[expose] public section

noncomputable section

namespace Cert.ReferenceIdeal.Plain

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the body makes of whole arrays -/

/-- The codes. -/
def G7 (a0 : Vec F S3x3584x4096 .fp8e4m3) (a1 : Vec F S3x28x32 .f32) (a2 : Vec F S3x4096 .f32) (a3 : Vec F S4096 .f32) (a4 : Vec F S64x64 .bf16) (a5 : Vec F S64x64 .bf16) (a6 : Vec F S3x3584 .i32) : Vec F S3x3584x4096 .fp8e4m3 :=
  k0_pay1 (k0_pay27 a0 a1 a2 a3 a4 a5 a6) (k0_pay26 (k0_pay28 a0 a1 a2 a3 a4 a5 a6) a6)

/-- The scales. -/
def G8 (a0 : Vec F S3x3584x4096 .fp8e4m3) (a1 : Vec F S3x28x32 .f32) (a2 : Vec F S3x4096 .f32) (a3 : Vec F S4096 .f32) (a4 : Vec F S64x64 .bf16) (a5 : Vec F S64x64 .bf16) (a6 : Vec F S3x3584 .i32) : Vec F S3x1x3584 .f32 :=
  k0_pay2 (k0_pay25 (k0_pay28 a0 a1 a2 a3 a4 a5 a6) a6)

/-- The errors, one column for each ratio. -/
def G9 (a0 : Vec F S3x3584x4096 .fp8e4m3) (a1 : Vec F S3x28x32 .f32) (a2 : Vec F S3x4096 .f32) (a3 : Vec F S4096 .f32) (a4 : Vec F S64x64 .bf16) (a5 : Vec F S64x64 .bf16) (a6 : Vec F S3x3584 .i32) : Vec F S3x8x3584 .f32 :=
  View.canon [⟨r0_12, k0_pay24 (k0_pay27 a0 a1 a2 a3 a4 a5 a6) (k0_pay28 a0 a1 a2 a3 a4 a5 a6)⟩,
    ⟨r0_11, k0_pay23 (k0_pay28 a0 a1 a2 a3 a4 a5 a6) (k0_pay22 (k0_pay27 a0 a1 a2 a3 a4 a5 a6) (k0_pay28 a0 a1 a2 a3 a4 a5 a6)) (Scalar.ofBits .f32 0x7F800000#32)⟩,
    ⟨r0_10, k0_pay21 (k0_pay27 a0 a1 a2 a3 a4 a5 a6) (k0_pay28 a0 a1 a2 a3 a4 a5 a6) (k0_pay19 (k0_pay28 a0 a1 a2 a3 a4 a5 a6)) (k0_pay20 (k0_pay27 a0 a1 a2 a3 a4 a5 a6) (k0_pay28 a0 a1 a2 a3 a4 a5 a6)) (Scalar.ofBits .f32 0xC3E00000#32) (Scalar.ofBits .f32 0x43E00000#32)⟩,
    ⟨r0_9, k0_pay18 (k0_pay27 a0 a1 a2 a3 a4 a5 a6) (k0_pay28 a0 a1 a2 a3 a4 a5 a6) (k0_pay16 (k0_pay28 a0 a1 a2 a3 a4 a5 a6)) (k0_pay17 (k0_pay28 a0 a1 a2 a3 a4 a5 a6))⟩,
    ⟨r0_8, k0_pay15 (k0_pay27 a0 a1 a2 a3 a4 a5 a6) (k0_pay28 a0 a1 a2 a3 a4 a5 a6)⟩,
    ⟨r0_7, k0_pay14 (k0_pay11 (k0_pay27 a0 a1 a2 a3 a4 a5 a6) (k0_pay28 a0 a1 a2 a3 a4 a5 a6)) (k0_pay12 (k0_pay28 a0 a1 a2 a3 a4 a5 a6)) (k0_pay13 (F := F))⟩,
    ⟨r0_6, k0_pay10 (k0_pay27 a0 a1 a2 a3 a4 a5 a6) (k0_pay28 a0 a1 a2 a3 a4 a5 a6) (k0_pay8 (k0_pay28 a0 a1 a2 a3 a4 a5 a6)) (k0_pay9 (k0_pay27 a0 a1 a2 a3 a4 a5 a6) (k0_pay28 a0 a1 a2 a3 a4 a5 a6))⟩,
    ⟨r0_5, k0_pay7 (k0_pay27 a0 a1 a2 a3 a4 a5 a6) (k0_pay28 a0 a1 a2 a3 a4 a5 a6) (k0_pay5 a0 a1 a2 a3 a5 a4) (k0_pay6 a0 a1 a2 a3 a5 a4) (Scalar.ofBits .f32 0x43E00000#32)⟩]

/-- The offsets of a whole block are zero. -/
theorem z1 : (![0] : Fin 1 → Nat) = fun _ => 0 := funext fun a => by fin_cases a <;> rfl
theorem z2 : (![0, 0] : Fin 2 → Nat) = fun _ => 0 := funext fun a => by fin_cases a <;> rfl
theorem z3 : (![0, 0, 0] : Fin 3 → Nat) = fun _ => 0 := funext fun a => by fin_cases a <;> rfl

/-- The body loads and stores whole blocks: what it leaves in its three output blocks, of the blocks it is given. -/
theorem out_eq (a0 : Vec F S3x3584x4096 .fp8e4m3) (a1 : Vec F S3x28x32 .f32) (a2 : Vec F S3x4096 .f32) (a3 : Vec F S4096 .f32) (a4 : Vec F S64x64 .bf16)
    (a5 : Vec F S64x64 .bf16) (a6 : Vec F S3x3584 .i32) :
    out0_7 a0 a1 a2 a3 a4 a5 a6 = G7 a0 a1 a2 a3 a4 a5 a6 ∧ out0_8 a0 a1 a2 a3 a4 a5 a6 = G8 a0 a1 a2 a3 a4 a5 a6
      ∧ out0_9 a0 a1 a2 a3 a4 a5 a6 = G9 a0 a1 a2 a3 a4 a5 a6 := by
  refine ⟨?_, ?_, ?_⟩
  · unfold out0_7 G7
    rw [View.canon_unit_zero z3, View.ld_unit_zero (S := S3x3584) z2 _ a6]
  · unfold out0_8 G8
    rw [View.canon_unit_zero z3, View.ld_unit_zero (S := S3x3584) z2 _ a6]
  · unfold out0_9 G9
    rw [View.ld_unit_zero (S := S3x3584x4096) z3 _ a0, View.ld_unit_zero (S := S3x28x32) z3 _ a1, View.ld_unit_zero (S := S3x4096) z2 _ a2,
      View.ld_unit_zero (S := S4096) z1 _ a3, View.ld_unit_zero (S := S64x64) z2 _ a5, View.ld_unit_zero (S := S64x64) z2 _ a4]

/-! ## The arrays after the run -/

/-- Every window's block is its whole array. -/
theorem idx : ∀ t : Fin cfg0.N, win0_0.index t = ![0, 0, 0] ∧ win0_1.index t = ![0, 0, 0] ∧ win0_2.index t = ![0, 0] ∧ win0_3.index t = ![0]
    ∧ win0_4.index t = ![0, 0] ∧ win0_5.index t = ![0, 0] ∧ win0_6.index t = ![0, 0] ∧ win0_7.index t = ![0, 0, 0]
    ∧ win0_8.index t = ![0, 0, 0] ∧ win0_9.index t = ![0, 0, 0] :=
  (by decide +kernel : ∀ t : Fin grid0.N, _)

/-- So the blocks the body is given are the arguments. -/
theorem blk_eq (c : Dev nD) (t : Fin cfg0.N) :
    iblk m c 0 t = m ((c : Thread nD τ).loc main_arg0) ∧ iblk m c 1 t = m ((c : Thread nD τ).loc main_arg1)
      ∧ iblk m c 2 t = m ((c : Thread nD τ).loc main_arg2) ∧ iblk m c 3 t = m ((c : Thread nD τ).loc main_arg3)
      ∧ iblk m c 4 t = m ((c : Thread nD τ).loc main_arg4) ∧ iblk m c 5 t = m ((c : Thread nD τ).loc main_arg5)
      ∧ iblk m c 6 t = m ((c : Thread nD τ).loc main_arg7) := by
  simp only [← V_main_arg0 m c, ← V_main_arg1 m c, ← V_main_arg2 m c, ← V_main_arg3 m c, ← V_main_arg4 m c, ← V_main_arg5 m c, ← V_main_arg7 m c]
  refine ⟨?_, ?_, ?_, ?_, ?_, ?_, ?_⟩ <;> (funext y; idx_vars y; blk_ext [iblk, idx t])

/-- A result of the arguments as launched. -/
abbrev ofArgs {α : Type} (f : Vec F S3x3584x4096 .fp8e4m3 → Vec F S3x28x32 .f32 → Vec F S3x4096 .f32 → Vec F S4096 .f32 → Vec F S64x64 .bf16
    → Vec F S64x64 .bf16 → Vec F S3x3584 .i32 → α) (c : Dev nD) : α :=
  f (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg7))

/-- The three arrays after the run. -/
theorem final (c : Dev nD) : (dats m 0 c).arrAt 7 cfg0.N = ofArgs m G7 c ∧ (dats m 0 c).arrAt 8 cfg0.N = ofArgs m G8 c
    ∧ (dats m 0 c).arrAt 9 cfg0.N = ofArgs m G9 c := by
  have e (t : Fin cfg0.N) : (dats m 0 c).after 7 t = ofArgs m G7 c ∧ (dats m 0 c).after 8 t = ofArgs m G8 c ∧ (dats m 0 c).after 9 t = ofArgs m G9 c := by
    obtain ⟨e0, e1, e2, e3, e4, e5, e6⟩ := blk_eq m c t
    rw [after0_7, after0_8, after0_9, e0, e1, e2, e3, e4, e5, e6]
    exact out_eq _ _ _ _ _ _ _
  generalize ofArgs m G7 c = W7 at e ⊢
  generalize ofArgs m G8 c = W8 at e ⊢
  generalize ofArgs m G9 c = W9 at e ⊢
  refine ⟨(dats m 0 c).arrAt_eq_of_covers 7 _ (by decide +kernel) fun t _ y => ?_, (dats m 0 c).arrAt_eq_of_covers 8 _ (by decide +kernel) fun t _ y => ?_,
    (dats m 0 c).arrAt_eq_of_covers 9 _ (by decide +kernel) fun t _ y => ?_⟩ <;>
  · obtain ⟨h7, h8, h9⟩ := e t
    blk_simp
    simp only [h7, h8, h9]
    idx_vars y
    blk_ext [idx t]

end Cert.ReferenceIdeal.Plain

end
-- ==== Proof.Row.lean ====
module

public import Idealize.ShloMosaic.Lib.Pipeline.ValueKit
public import Idealize.ShloMosaic.Lib.IdealHost

/-!
# Quantising one row of extended reals

A row `r` with greatest magnitude `A` is quantised at the scale `scl q A`: `A` times a ratio `q` times a factor just above one,
over 448, or one for a row of zeros. The code of an element is its quotient by the scale, clamped to ±448. Two programs that
compute the row in different orders agree where they are finite, and are infinite together (`Alike`); then they have the same
greatest magnitude, the same codes and the same errors, whether they divide by the scale or multiply by its reciprocal.
-/

@[expose] public section

noncomputable section

namespace Cert.Proof

open Idealize.ShloMosaic

/-! ## The constants -/

theorem c448_eq : Ideal.ofBits .f32 1138753536#32 = ((448 : ℝ) : EReal) := by
  simp [Ideal.ofBits, Ideal.ieee, -EReal.coe_mul]; norm_num

theorem cm448_eq : Ideal.ofBits .f32 3286237184#32 = ((-448 : ℝ) : EReal) := by
  simp [Ideal.ofBits, Ideal.ieee, -EReal.coe_mul, -EReal.coe_neg]; norm_num

theorem c64_eq : Ideal.ofBits .f32 1115684864#32 = ((64 : ℝ) : EReal) := by
  simp [Ideal.ofBits, Ideal.ieee, -EReal.coe_mul]; norm_num

theorem inv64_eq : Ideal.ofBits .f32 1015021568#32 = ((1 / 64 : ℝ) : EReal) := by
  simp [Ideal.ofBits, Ideal.ieee, -EReal.coe_mul]; norm_num

theorem ninf_eq : Ideal.ofBits .f32 4286578688#32 = ⊥ := by
  simp [Ideal.ofBits, Ideal.ieee]

theorem inf_eq : Ideal.ofBits .f32 2139095040#32 = ⊤ := by
  simp [Ideal.ofBits, Ideal.ieee]

/-- A positive real number. -/
def PosReal (q : EReal) : Prop := ∃ x : ℝ, 0 < x ∧ q = (x : EReal)

theorem tie_pos : PosReal (Ideal.ofBits .f32 1065355264#32) := by
  refine ⟨_, ?_, by simp [Ideal.ofBits, Ideal.ieee, -EReal.coe_mul]; rfl⟩; norm_num

/-- The ratios, from one down. -/
def ratio : Fin 8 → EReal
  | 0 => 1
  | 1 => Ideal.ofBits .f32 1064514355#32
  | 2 => Ideal.ofBits .f32 1063675494#32
  | 3 => Ideal.ofBits .f32 1062836634#32
  | 4 => Ideal.ofBits .f32 1061997773#32
  | 5 => Ideal.ofBits .f32 1061158912#32
  | 6 => Ideal.ofBits .f32 1060320051#32
  | 7 => Ideal.ofBits .f32 1059481190#32

theorem ratio_pos (k : Fin 8) : PosReal (ratio k) := by
  fin_cases k
  · exact ⟨1, one_pos, by norm_cast⟩
  all_goals
    refine ⟨_, ?_, by simp [ratio, Ideal.ofBits, Ideal.ieee, -EReal.coe_mul]; rfl⟩; norm_num

/-! ## Sums -/

/-- A sum with an infinite term is infinite. -/
theorem sum_inf {ι : Type*} [DecidableEq ι] (s : Finset ι) (f : ι → EReal) (a : ι) (ha : a ∈ s) (h : f a = ⊤ ∨ f a = ⊥) :
    s.sum f = ⊤ ∨ s.sum f = ⊥ := by
  rw [← Finset.add_sum_erase s f ha]
  rcases h with h | h <;> rw [h]
  · generalize (s.erase a).sum f = y
    induction y <;> simp
  · right; simp

theorem add_inf {x : EReal} (y : EReal) (h : x = ⊤ ∨ x = ⊥) : x + y = ⊤ ∨ x + y = ⊥ := by
  rcases h with h | h <;> rw [h]
  · induction y <;> simp
  · right; simp

/-- A real factor that is not negative goes through a sum of extended reals. -/
theorem sum_mul_real {ι : Type*} (s : Finset ι) (f : ι → EReal) (κ : ℝ) (hκ : 0 ≤ κ) :
    s.sum f * (κ : EReal) = s.sum fun x => f x * (κ : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hκ) (EReal.coe_ne_top κ) _ _

/-! ## Rows that agree where they are finite -/

/-- Equal, or both infinite. -/
def Alike (u r : EReal) : Prop := u = r ∨ ((u = ⊤ ∨ u = ⊥) ∧ (r = ⊤ ∨ r = ⊥))

theorem Alike.abs {u r : EReal} (h : Alike u r) : max u (-u) = max r (-r) := by
  rcases h with rfl | ⟨rfl | rfl, rfl | rfl⟩ <;> simp

/-- `A` is the greatest magnitude of the row `f`. -/
def IsMax {ι : Type*} (A : EReal) (f : ι → EReal) : Prop := ∀ c, A ≤ c ↔ ∀ x, max (f x) (-f x) ≤ c

theorem abs_nonneg (x : EReal) : 0 ≤ max x (-x) := by
  rcases le_total 0 x with h | h
  · exact le_max_of_le_left h
  · exact le_max_of_le_right (by simpa using EReal.neg_le_neg_iff.mpr h)

theorem IsMax.eq {ι : Type*} {A B : EReal} {u r : ι → EReal} (hA : IsMax A u) (hB : IsMax B r) (h : ∀ x, Alike (u x) (r x)) : A = B :=
  eq_of_forall_ge_iff fun c => by rw [hA c, hB c]; simp only [fun x => (h x).abs]

theorem IsMax.nonneg {ι : Type*} [Nonempty ι] {A : EReal} {r : ι → EReal} (hA : IsMax A r) : 0 ≤ A :=
  (abs_nonneg _).trans ((hA A).mp le_rfl (Classical.arbitrary ι))

theorem IsMax.top {ι : Type*} {A : EReal} {r : ι → EReal} (hA : IsMax A r) (x : ι) (h : r x = ⊤ ∨ r x = ⊥) : A = ⊤ := by
  have := (hA A).mp le_rfl x
  rcases h with h | h <;> rw [h] at this <;> simpa using this

/-- A maximum taken from the bottom. -/
theorem isMax_fold {ι : Type*} [Fintype ι] (r : ι → EReal) :
    IsMax (Finset.fold max (Ideal.ofBits .f32 4286578688#32) (fun x => max (r x) (-r x)) Finset.univ) r := fun c => by
  rw [Finset.fold_max_le, ninf_eq]; simp

/-! ## Scales, codes, errors -/

/-- The scale of a row of greatest magnitude `A` at the ratio `q`. -/
def scl (q A : EReal) : EReal :=
  if A = 0 then 1 else Ideal.div (q * A * Ideal.ofBits .f32 1065355264#32) (Ideal.ofBits .f32 1138753536#32)

/-- The clamp. -/
def cl (y : EReal) : EReal := min (Ideal.ofBits .f32 1138753536#32) (max (Ideal.ofBits .f32 3286237184#32) y)

theorem scl_top {q : EReal} (hq : PosReal q) : scl q ⊤ = ⊤ := by
  obtain ⟨x, hx, rfl⟩ := hq
  obtain ⟨t, ht, ht'⟩ := tie_pos
  rw [scl, if_neg (by simp), ht', c448_eq, Ideal.div_coe (by norm_num), EReal.coe_mul_top_of_pos hx, EReal.top_mul_coe_of_pos ht,
    EReal.top_mul_coe_of_pos (by norm_num)]

theorem scl_real {q : EReal} (hq : PosReal q) {a : ℝ} (ha : 0 ≤ a) : PosReal (scl q a) := by
  obtain ⟨x, hx, rfl⟩ := hq
  obtain ⟨t, ht, ht'⟩ := tie_pos
  rw [scl]
  split
  · exact ⟨1, one_pos, by norm_cast⟩
  · rename_i h
    have ha' : 0 < a := lt_of_le_of_ne ha fun h' => h (by rw [← h']; norm_cast)
    rw [ht', c448_eq, Ideal.div_coe (by norm_num)]
    exact ⟨x * a * t * (1 / 448), by positivity, by push_cast; rfl⟩

theorem scl_cases {q A : EReal} (hq : PosReal q) (hA : 0 ≤ A) : (A = ⊤ ∧ scl q A = ⊤) ∨ (A ≠ ⊤ ∧ PosReal (scl q A)) := by
  induction A with
  | bot => simp at hA
  | top => exact .inl ⟨rfl, scl_top hq⟩
  | coe a => exact .inr ⟨EReal.coe_ne_top a, scl_real hq (EReal.coe_nonneg.mp hA)⟩

variable {ι : Type*} [Nonempty ι] {A q : EReal} {u r : ι → EReal}

/-- Multiplying by the reciprocal of the scale is dividing by it. -/
theorem quot_eq (hq : PosReal q) (hA : IsMax A r) (h : ∀ x, Alike (u x) (r x)) (x : ι) :
    u x * Ideal.div 1 (scl q A) = Ideal.div (r x) (scl q A) := by
  rcases scl_cases hq hA.nonneg with ⟨hA', hs⟩ | ⟨hA', s, hs, hs'⟩
  · rw [hs]; simp [Ideal.div]
  · rw [hs', Ideal.div_coe hs.ne', Ideal.div_coe hs.ne', one_mul]
    rcases h x with h | ⟨-, h⟩
    · rw [h]
    · exact absurd (hA.top x h) hA'

theorem cl_coe (y : ℝ) : cl (y : EReal) = ((min 448 (max (-448) y) : ℝ) : EReal) := by
  rw [cl, c448_eq, cm448_eq, EReal.coe_strictMono.monotone.map_min, EReal.coe_strictMono.monotone.map_max]

/-- The squared errors of the quotients, scaled back, are those of the row, and zero for a row that is not finite. -/
theorem err_eq [Fintype ι] (hq : PosReal q) (hA : IsMax A r) (h : ∀ x, Alike (u x) (r x)) :
    (∑ x, (u x * Ideal.div 1 (scl q A) - cl (u x * Ideal.div 1 (scl q A))) * (u x * Ideal.div 1 (scl q A) - cl (u x * Ideal.div 1 (scl q A))))
        * (scl q A * scl q A)
      = if A < Ideal.ofBits .f32 2139095040#32 then
          ∑ x, (r x - cl (Ideal.div (r x) (scl q A)) * scl q A) * (r x - cl (Ideal.div (r x) (scl q A)) * scl q A) else 0 := by
  simp only [quot_eq hq hA h]
  rw [inf_eq]
  rcases scl_cases hq hA.nonneg with ⟨hA', hs⟩ | ⟨hA', s, hs, hs'⟩
  · rw [if_neg (by simp [hA']), hs]
    have h0 : ∀ x : EReal, Ideal.div x ⊤ = ((0 : ℝ) : EReal) := fun x => by simp [Ideal.div]
    simp only [h0, cl_coe]
    norm_num
  · rw [if_pos (lt_top_iff_ne_top.mpr hA'), hs', ← EReal.coe_mul, sum_mul_real _ _ _ (by positivity)]
    refine Finset.sum_congr rfl fun x _ => ?_
    rw [Ideal.div_coe hs.ne']
    generalize hx : r x = y
    induction y with
    | bot => exact absurd (hA.top x (.inr hx)) hA'
    | top => exact absurd (hA.top x (.inl hx)) hA'
    | coe y =>
      rw [← EReal.coe_mul, cl_coe]
      norm_cast
      generalize min 448 (max (-448) (y * (1 / s))) = k
      field_simp

/-! ## A choice among eight -/

/-- The entry an index picks; an index that is none of one to seven picks the first. -/
def pick (w : BitVec 32) (f : Fin 8 → EReal) : EReal :=
  Scalar.select (IntOp.cmpi .eq w 7#32) (f 7) (Scalar.select (IntOp.cmpi .eq w 6#32) (f 6)
    (Scalar.select (IntOp.cmpi .eq w 5#32) (f 5) (Scalar.select (IntOp.cmpi .eq w 4#32) (f 4)
      (Scalar.select (IntOp.cmpi .eq w 3#32) (f 3) (Scalar.select (IntOp.cmpi .eq w 2#32) (f 2)
        (Scalar.select (IntOp.cmpi .eq w 1#32) (f 1) (f 0)))))))

/-- One of the entries is picked, the same whatever the entries are. -/
theorem pick_spec (w : BitVec 32) : ∃ k : Fin 8, ∀ f, pick w f = f k := by
  by_cases h7 : w = 7#32; · exact ⟨7, fun f => by simp [pick, h7, Scalar.select, IntOp.cmpi]⟩
  by_cases h6 : w = 6#32; · exact ⟨6, fun f => by simp [pick, h6, Scalar.select, IntOp.cmpi]⟩
  by_cases h5 : w = 5#32; · exact ⟨5, fun f => by simp [pick, h5, Scalar.select, IntOp.cmpi]⟩
  by_cases h4 : w = 4#32; · exact ⟨4, fun f => by simp [pick, h4, Scalar.select, IntOp.cmpi]⟩
  by_cases h3 : w = 3#32; · exact ⟨3, fun f => by simp [pick, h3, Scalar.select, IntOp.cmpi]⟩
  by_cases h2 : w = 2#32; · exact ⟨2, fun f => by simp [pick, h2, Scalar.select, IntOp.cmpi]⟩
  by_cases h1 : w = 1#32; · exact ⟨1, fun f => by simp [pick, h1, Scalar.select, IntOp.cmpi]⟩
  have e (n : BitVec 32) (h : ¬w = n) : (w == n) = false := beq_eq_false_iff_ne.mpr h
  exact ⟨0, fun f => by simp [pick, e _ h1, e _ h2, e _ h3, e _ h4, e _ h5, e _ h6, e _ h7, Scalar.select, IntOp.cmpi]⟩

/-- The scale at the picked ratio is the picked scale. -/
theorem pick_scl (w : BitVec 32) (A : EReal) : scl (pick w ratio) A = pick w fun k => scl (ratio k) A := by
  obtain ⟨k, hk⟩ := pick_spec w
  rw [hk, hk]

theorem pick_pos (w : BitVec 32) : PosReal (pick w ratio) := by
  obtain ⟨k, hk⟩ := pick_spec w
  rw [hk]; exact ratio_pos k

end Cert.Proof

end
-- ==== Proof.Rotate.lean ====
module

public import proofs.«01_k».proof.Proof.Row

/-!
# A product in three parts

A matrix product can be taken of a value split into a leading part and two remainders. Over the extended reals the leading part is
the whole value, so the remainders are zero where the value is finite. Where it is infinite they are not, but then the
leading product is infinite already unless the coefficient is zero: the three-part product and the plain one are alike.
-/

@[expose] public section

noncomputable section

namespace Cert.Proof

open Idealize.ShloMosaic

theorem sub_self_real {t : EReal} (h : ¬(t = ⊤ ∨ t = ⊥)) : t - t = 0 := by
  induction t with
  | bot => simp at h
  | top => simp at h
  | coe t => rw [← EReal.coe_sub]; simp

/-- A number that is not zero times an infinite one is infinite. -/
theorem mul_inf {h t : EReal} (h0 : h ≠ 0) (ht : t = ⊤ ∨ t = ⊥) : h * t = ⊤ ∨ h * t = ⊥ := by
  rcases lt_or_gt_of_ne h0 with h' | h' <;> rcases ht with rfl | rfl
  · exact .inr (EReal.mul_top_of_neg h')
  · exact .inl (EReal.mul_bot_of_neg h')
  · exact .inl (EReal.mul_top_of_pos h')
  · exact .inr (EReal.mul_bot_of_pos h')

/-- The three-part product with scaled coefficients, and the plain product scaled after. -/
theorem split_alike {ι : Type*} [Fintype ι] [DecidableEq ι] (h t : ι → EReal) (κ : ℝ) (hκ : 0 < κ) :
    Alike (∑ a, h a * (κ : EReal) * t a + ∑ a, h a * (κ : EReal) * (t a - t a)
        + ∑ a, h a * (κ : EReal) * (t a - t a - (t a - t a)))
      ((∑ a, h a * t a) * (κ : EReal)) := by
  have e : (∑ a, h a * t a) * (κ : EReal) = ∑ a, h a * (κ : EReal) * t a := by
    rw [sum_mul_real _ _ _ hκ.le]
    exact Finset.sum_congr rfl fun a _ => by rw [mul_assoc, mul_assoc, mul_comm (t a)]
  rw [e]
  by_cases hz : ∃ a, h a ≠ 0 ∧ (t a = ⊤ ∨ t a = ⊥)
  · obtain ⟨a, ha, hta⟩ := hz
    have hk : h a * (κ : EReal) ≠ 0 := mul_ne_zero ha (by exact_mod_cast hκ.ne')
    have hs := sum_inf Finset.univ (fun a => h a * (κ : EReal) * t a) a (Finset.mem_univ a) (mul_inf hk hta)
    exact .inr ⟨add_inf _ (add_inf _ hs), hs⟩
  · have h0 : ∀ a, h a * (κ : EReal) * (t a - t a) = 0 ∧ h a * (κ : EReal) * (t a - t a - (t a - t a)) = 0 := fun a => by
      by_cases ha : h a = 0
      · simp [ha]
      · have ht := sub_self_real fun ht => hz ⟨a, ha, ht⟩
        simp [ht]
    refine .inl ?_
    simp only [fun a => (h0 a).1, fun a => (h0 a).2, Finset.sum_const_zero, add_zero]

end Cert.Proof

end
-- ==== Proof.RotBlock.lean ====
module

public import proofs.«01_k».proof.Proof.RunKernelIdeal
public import proofs.«01_k».proof.Proof.Rotate

/-!
# The rotated block, element by element

The first loop leaves the product of each group of 256 columns with the first matrix, the second loop the three-part product of
those with the second matrix, and the greatest magnitudes of eight interleaved groups of the result.
-/

@[expose] public section

set_option maxRecDepth 16384

noncomputable section

namespace Cert.KernelIdeal.Conv

open Cert.KernelIdeal Cert.KernelIdeal.Gen
open Idealize.ShloMosaic Idealize.ShloMosaic.TcCoe
open Cert.Proof

/-- What a loop's pieces leave at an index: the value every piece that holds the index has there. -/
theorem canon_loop {S : Shape} {e : EltTy} {n : ℕ} (g : Fin n → View.Piece (Elt Ideal) S e) (N : ℕ) (y : S.Idx) (v : Elt Ideal e)
    (hc : ∃ p ∈ loopList g N, y ∈ p.1.set) (h : ∀ k, ∀ x, (g k).1.emb x = y → (g k).2 x = v) : View.canon (loopList g N) y = v :=
  View.canon_eq_of_allAt _ y v hc fun p hp x hx => by
    obtain ⟨k, -, rfl⟩ := (mem_loopList g N p).mp hp
    exact h k x hx

/-- The coordinates of an index in a rectangle of unit steps, whose offsets are `off'`. -/
theorem emb_val {S : Shape} (off size : Fin S.rank → ℕ) (inb) (off' : Fin S.rank → ℕ) (ho : off = off')
    (x : (Rect.unit (s := S) off size inb).shape.Idx) (y : S.Idx)
    (h : (Rect.unit (s := S) off size inb).emb x = y) (a : Fin S.rank) : (y a : ℕ) = off' a + x a := by
  subst ho; rw [← h]; exact Rect.idx_unit_val off size inb x a

/-- A load through such a rectangle. -/
theorem ld_val {S : Shape} {e : EltTy} (X : S.Idx → Elt Ideal e) (off size : Fin S.rank → ℕ) (inb) (off' : Fin S.rank → ℕ) (ho : off = off')
    (x : (Rect.unit (s := S) off size inb).shape.Idx) (i : S.Idx) (hi : ∀ a, (i a : ℕ) = off' a + x a) :
    View.ld X (Rect.unit (s := S) off size inb) x = X i :=
  View.ld_unit_apply_of X off size inb x i fun a => by subst ho; exact hi a

theorem off1_eq : ∀ k, k0_off1 k = ![0, 0, 0, 256 * k.val] := by decide +kernel
theorem off2_eq : ∀ k, k0_off2 k = ![0, 0, 256 * k.val] := by decide +kernel
theorem off3_eq : ∀ k, k0_off3 k = ![0, 0, 256 * k.val] := by decide +kernel
theorem off4_eq : ∀ k, k0_off4 k = ![0, 0, 1, 256 * k.val] := by decide +kernel
theorem off5_eq : ∀ k, k0_off5 k = ![0, 128, 256 * k.val] := by decide +kernel
theorem off6_eq : ∀ k, k0_off6 k = ![4 * k.val, 0, 0] := by decide +kernel
theorem off7_eq : ∀ k, k0_off7 k = ![0, 8 * k.val, 0] := by decide +kernel
theorem off8_eq : ∀ k, k0_off8 k = ![32 * k.val, 0] := by decide +kernel
theorem off9_eq : ∀ k, k0_off9 k = ![32 * k.val, 128] := by decide +kernel
theorem off10_eq : ∀ k, k0_off10 k = ![128 * k.val, 0] := by decide +kernel
theorem off11_eq : ∀ k, k0_off11 k = ![0, 0, 128 * k.val] := by decide +kernel

variable (x0 : Vec Ideal S1x256x4096 .fp8e4m3) (x1 : Vec Ideal S1x1x2x4096 .f32) (x2 : Vec Ideal S1x1x4096 .f32)
  (x3 : Vec Ideal S256x256 .bf16) (x4 : Vec Ideal S512x512 .bf16)

/-- The decoded block. -/
def dec (p : Fin 256) (n : Fin 4096) : EReal :=
  x0 (ix3 0 p n) * (x1 (ix4 0 0 (⟨p.val / 128, by omega⟩ : Fin 2) n) * x2 (ix3 0 0 n))

theorem col_lt (a : Fin 64) (k : Fin 256) : 256 * (a.val / 4) + k.val < 4096 := by omega

/-- The first product. -/
theorem first_apply (a b : Fin 64) (p : Fin 256) :
    View.canon (pcs1 x0 x1 x2 x3) (ix3 a b p)
      = ∑ k : Fin 256, x3 (ix2 (⟨a.val % 4 * 64 + b.val, by omega⟩ : Fin 256) k) * dec x0 x1 x2 p ⟨256 * (a.val / 4) + k.val, col_lt a k⟩ := by
  refine canon_loop _ _ _ _ (cover1 x0 x1 x2 x3 _) fun k x hx => ?_
  have hv := emb_val (S := S64x64x256) (k0_off6 k) S4x64x256.size (k0_off6_inb k) _ (off6_eq k) x _ hx
  have h0 := hv 0
  have h1 := hv 1
  have h2 := hv 2
  obtain ⟨i, j, q, rfl⟩ : ∃ (i : Fin 4) (j : Fin 64) (q : Fin 256), x = (ix3 i j q : S4x64x256.Idx) := ⟨x 0, x 1, x 2, by funext a; fin_cases a <;> rfl⟩
  replace h0 : a.val = 4 * k.val + i.val := h0
  replace h1 : b.val = 0 + j.val := h1
  replace h2 : p.val = 0 + q.val := h2
  obtain rfl : b = j := Fin.ext (by omega)
  obtain rfl : p = q := Fin.ext (by omega)
  show k0_pay51 (F := Ideal) (k0_pay6 _ _ _ _ _ _ _) _ = _
  pointwise [k0_pay51, k0_pay6]
  refine Finset.sum_congr rfl fun n _ => ?_
  have hk : a.val / 4 = k.val := by omega
  have hi : a.val % 4 = i.val := by omega
  split
  · have e : p.val / 128 = 0 := by omega
    simp [off1_eq, off2_eq, off3_eq, dec, hk, hi, e]
  · have e : p.val / 128 = 1 := by omega
    have e' : 128 + (p.val - 128) = p.val := by omega
    simp [off2_eq, off4_eq, off5_eq, dec, hk, hi, e, e']

theorem rotCol_lt (j : Fin 64) (s : Fin 512) : 8 * (j.val / 8) + s.val % 8 < 64 := by omega

/-- The three-part product of the second loop. -/
def tri (t : Vec Ideal S64x64x256 .f32) (i j : Fin 64) (p : Fin 256) : EReal :=
  ∑ s : Fin 512, x4 (ix2 (⟨i.val * 8 + j.val % 8, by omega⟩ : Fin 512) s)
      * t (ix3 (⟨s.val / 8, by omega⟩ : Fin 64) (⟨8 * (j.val / 8) + s.val % 8, rotCol_lt j s⟩ : Fin 64) p)
    + ∑ s : Fin 512, x4 (ix2 (⟨i.val * 8 + j.val % 8, by omega⟩ : Fin 512) s)
      * (t (ix3 (⟨s.val / 8, by omega⟩ : Fin 64) (⟨8 * (j.val / 8) + s.val % 8, rotCol_lt j s⟩ : Fin 64) p)
        - t (ix3 (⟨s.val / 8, by omega⟩ : Fin 64) (⟨8 * (j.val / 8) + s.val % 8, rotCol_lt j s⟩ : Fin 64) p))
    + ∑ s : Fin 512, x4 (ix2 (⟨i.val * 8 + j.val % 8, by omega⟩ : Fin 512) s)
      * (t (ix3 (⟨s.val / 8, by omega⟩ : Fin 64) (⟨8 * (j.val / 8) + s.val % 8, rotCol_lt j s⟩ : Fin 64) p)
          - t (ix3 (⟨s.val / 8, by omega⟩ : Fin 64) (⟨8 * (j.val / 8) + s.val % 8, rotCol_lt j s⟩ : Fin 64) p)
        - (t (ix3 (⟨s.val / 8, by omega⟩ : Fin 64) (⟨8 * (j.val / 8) + s.val % 8, rotCol_lt j s⟩ : Fin 64) p)
          - t (ix3 (⟨s.val / 8, by omega⟩ : Fin 64) (⟨8 * (j.val / 8) + s.val % 8, rotCol_lt j s⟩ : Fin 64) p)))

theorem second_apply (t : Vec Ideal S64x64x256 .f32) (i j : Fin 64) (p : Fin 256) :
    View.canon (pcs2 x4 t) (ix3 i j p) = tri x4 t i j p := by
  refine canon_loop _ _ _ _ (cover2 x4 t _) fun k x hx => ?_
  have hv := emb_val (S := S64x64x256) (k0_off7 k) S64x8x256.size (k0_off7_inb k) _ (off7_eq k) x _ hx
  have h0 := hv 0
  have h1 := hv 1
  have h2 := hv 2
  obtain ⟨i', j', q, rfl⟩ : ∃ (i' : Fin 64) (j' : Fin 8) (q : Fin 256), x = (ix3 i' j' q : S64x8x256.Idx) := ⟨x 0, x 1, x 2, by funext a; fin_cases a <;> rfl⟩
  replace h0 : i.val = 0 + i'.val := h0
  replace h1 : j.val = 8 * k.val + j'.val := h1
  replace h2 : p.val = 0 + q.val := h2
  obtain rfl : i = i' := Fin.ext (by omega)
  obtain rfl : p = q := Fin.ext (by omega)
  show k0_pay54 (F := Ideal) _ _ _ = _
  pointwise [k0_pay54, k0_pay53]
  have hk : j.val / 8 = k.val := by omega
  have hj : j.val % 8 = j'.val := by omega
  simp [off7_eq, tri, hk, hj]

/-- The magnitudes one trip looks at. -/
theorem acc2_apply (t : Vec Ideal S64x64x256 .f32) (k) (v : FVec Ideal S8x256 .f32) (s : Fin 8) (p : Fin 256) :
    acc2 x4 t k v (ix2 s p) = max (v (ix2 s p)) (Finset.fold max (Ideal.ofBits .f32 4286578688#32)
      (fun i : Fin 64 => max (tri x4 t i ⟨8 * k.val + s.val, by have := k.isLt; have : k.val < 8 := k.isLt; omega⟩ p)
        (-(tri x4 t i ⟨8 * k.val + s.val, by have : k.val < 8 := k.isLt; omega⟩ p))) Finset.univ) := by
  unfold acc2
  pointwise [k0_pay55, k0_pay53]
  refine congrArg _ (congrArg (fun f => Finset.fold max _ f Finset.univ) (funext fun i => ?_))
  have hk : (8 * k.val + s.val) / 8 = k.val := by omega
  have hj : (8 * k.val + s.val) % 8 = s.val := by omega
  have e : ∀ x : EReal, FloatOps.absf (F := Ideal) (φ := .f32) x = max x (-x) := fun _ => rfl
  simp [off7_eq, tri, hk, hj, e]

/-- The maxima after `n` trips bound what the trips looked at. -/
theorem maxs_le (t : Vec Ideal S64x64x256 .f32) (s : Fin 8) (p : Fin 256) (c : EReal) : ∀ n : ℕ,
    loopFold (acc2 x4 t) (k0_pay52 (F := Ideal)) n (ix2 s p) ≤ c
      ↔ 0 ≤ c ∧ ∀ i j : Fin 64, j.val % 8 = s.val → j.val / 8 < n → max (tri x4 t i j p) (-(tri x4 t i j p)) ≤ c
  | 0 => by
    rw [loopFold]
    pointwise [k0_pay52]
    simp
  | n + 1 => by
    rw [loopFold]
    split
    · rename_i h
      have h8 : n < 8 := h
      rw [acc2_apply, max_le_iff, maxs_le t s p c n, Finset.fold_max_le, ninf_eq]
      constructor
      · rintro ⟨⟨h0, h1⟩, -, h2⟩
        refine ⟨h0, fun i j hj hn => ?_⟩
        rcases Nat.lt_succ_iff_lt_or_eq.mp hn with hn | hn
        · exact h1 i j hj hn
        · have := h2 i (Finset.mem_univ i)
          rwa [show (⟨8 * n + s.val, by omega⟩ : Fin 64) = j from Fin.ext (by simp only; omega)] at this
      · rintro ⟨h0, h1⟩
        refine ⟨⟨h0, fun i j hj hn => h1 i j hj (by omega)⟩, bot_le, fun i _ => h1 i _ ?_ ?_⟩
        · simp only; omega
        · simp only; omega
    · rename_i h
      have h8 : ¬ n < 8 := h
      rw [maxs_le t s p c n]
      exact and_congr_right fun _ => forall_congr' fun i => forall_congr' fun j => imp_congr_right fun _ =>
        ⟨fun h' _ => h' (by omega), fun h' _ => h' (by omega)⟩

end Cert.KernelIdeal.Conv

end
-- ==== Proof.CodeBlock.lean ====
module

public import proofs.«01_k».proof.Proof.RotBlock

/-!
# Codes and errors of the rotated block, element by element

The third and the fourth loop quantise the two halves of the block's columns at all eight scales: they add the squared errors of
each scale up, row block by row block, and store the codes of the scale the column's index picks.
-/

@[expose] public section

set_option maxRecDepth 16384

noncomputable section

namespace Cert.KernelIdeal.Conv

open Cert.KernelIdeal Cert.KernelIdeal.Gen
open Idealize.ShloMosaic Idealize.ShloMosaic.TcCoe
open Cert.Proof

/-- The eight carried sums by number. -/
def comp (a : Acc Ideal) : Fin 8 → FVec Ideal S8x128 .f32
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2

/-- The squared error of a clamp. -/
def sq (y : EReal) : EReal := (y - cl y) * (y - cl y)

variable (S : Fin 8 → FVec Ideal S1x256 .f32)

/-- One trip of the third loop adds the squared errors of four elements of each column and each of eight row positions. -/
theorem acc3_apply (b : Vec Ideal S32x128 .f32) (a : Acc Ideal) (k : Fin 8) (s : Fin 8) (q : Fin 128) :
    comp (acc3 (k0_pay73 (S 0) (Scalar.ofBits .f32 0x3F800000#32)) (k0_pay74 (S 1)) (k0_pay75 (S 2)) (k0_pay76 (S 3)) (k0_pay77 (S 4))
        (k0_pay78 (S 5)) (k0_pay79 (S 6)) (k0_pay80 (S 7)) b a) k (ix2 s q)
      = comp a k (ix2 s q) + ∑ x : Fin 4, sq (b (ix2 (⟨x.val * 8 + s.val, by omega⟩ : Fin 32) q) * Ideal.div 1 (S k (ix2 0 (⟨q.val, by omega⟩ : Fin 256)))) := by
  fin_cases k <;> simp only [comp, acc3] <;>
    pointwise [k0_pay10, k0_pay13, k0_pay18, k0_pay21, k0_pay24, k0_pay87, k0_pay90, k0_pay93, k0_pay7, k0_pay8, k0_pay9, k0_pay11, k0_pay12, k0_pay15,
      k0_pay16, k0_pay17, k0_pay19, k0_pay20, k0_pay22, k0_pay23, k0_pay26, k0_pay27, k0_pay28, k0_pay88, k0_pay89, k0_pay91, k0_pay92,
      k0_pay73, k0_pay74, k0_pay75, k0_pay76, k0_pay77, k0_pay78, k0_pay79, k0_pay80] <;> rfl

/-- One trip of the fourth loop, likewise for the other half of the columns. -/
theorem acc4_apply (b : Vec Ideal S32x128 .f32) (a : Acc Ideal) (k : Fin 8) (s : Fin 8) (q : Fin 128) :
    comp (acc4 (S 7) (k0_pay106 (S 0)) (k0_pay107 (S 1)) (k0_pay108 (S 2)) (k0_pay109 (S 3)) (k0_pay110 (S 4)) (k0_pay111 (S 5)) (k0_pay112 (S 6)) b a) k (ix2 s q)
      = comp a k (ix2 s q) + ∑ x : Fin 4, sq (b (ix2 (⟨x.val * 8 + s.val, by omega⟩ : Fin 32) q) * Ideal.div 1 (S k (ix2 0 (⟨128 + q.val, by omega⟩ : Fin 256)))) := by
  fin_cases k <;> simp only [comp, acc4] <;>
    pointwise [k0_pay29, k0_pay30, k0_pay31, k0_pay32, k0_pay33, k0_pay34, k0_pay35, k0_pay37, k0_pay38, k0_pay39, k0_pay40, k0_pay41, k0_pay42, k0_pay43, k0_pay44,
      k0_pay45, k0_pay46, k0_pay48, k0_pay49, k0_pay50, k0_pay118, k0_pay119, k0_pay120, k0_pay121, k0_pay122, k0_pay123, k0_pay124,
      k0_pay106, k0_pay107, k0_pay108, k0_pay109, k0_pay110, k0_pay111, k0_pay112] <;> rfl

/-- The codes one trip of the third loop stores. -/
theorem code3_apply (w : Vec Ideal S1x1x256 .i32) (b : Vec Ideal S32x128 .f32) (n : Fin 32) (q : Fin 128) :
    code3 (k0_pay71 w) (k0_pay73 (S 0) (Scalar.ofBits .f32 0x3F800000#32)) (k0_pay74 (S 1)) (k0_pay75 (S 2)) (k0_pay76 (S 3)) (k0_pay77 (S 4))
        (k0_pay78 (S 5)) (k0_pay79 (S 6)) (k0_pay80 (S 7)) (k0_pay81 (k0_pay71 w)) (k0_pay82 (k0_pay71 w)) (k0_pay83 (k0_pay71 w)) b (ix2 n q)
      = pick (w (ix3 0 0 (⟨q.val, by omega⟩ : Fin 256))) fun k => cl (b (ix2 n q) * Ideal.div 1 (S k (ix2 0 (⟨q.val, by omega⟩ : Fin 256)))) := by
  unfold code3
  pointwise [k0_pay94, k0_pay25, k0_pay84, k0_pay85, k0_pay14, k0_pay16, k0_pay27, k0_pay7, k0_pay8, k0_pay9, k0_pay11, k0_pay12, k0_pay15,
      k0_pay16, k0_pay17, k0_pay19, k0_pay20, k0_pay22, k0_pay23, k0_pay26, k0_pay27, k0_pay28, k0_pay88, k0_pay89, k0_pay91, k0_pay92,
      k0_pay73, k0_pay74, k0_pay75, k0_pay76, k0_pay77, k0_pay78, k0_pay79, k0_pay80, k0_pay81, k0_pay82, k0_pay83, k0_pay71]
  simp only [dite_eq_ite, ite_self]
  rfl

/-- The codes one trip of the fourth loop stores. -/
theorem code4_apply (w : Vec Ideal S1x1x256 .i32) (b : Vec Ideal S32x128 .f32) (n : Fin 32) (q : Fin 128) :
    code4 (S 7) (k0_pay71 w) (k0_pay106 (S 0)) (k0_pay107 (S 1)) (k0_pay108 (S 2)) (k0_pay109 (S 3)) (k0_pay110 (S 4)) (k0_pay111 (S 5)) (k0_pay112 (S 6)) b (ix2 n q)
      = pick (w (ix3 0 0 (⟨128 + q.val, by omega⟩ : Fin 256))) fun k => cl (b (ix2 n q) * Ideal.div 1 (S k (ix2 0 (⟨128 + q.val, by omega⟩ : Fin 256)))) := by
  unfold code4
  pointwise [k0_pay125, k0_pay47, k0_pay113, k0_pay114, k0_pay115, k0_pay116, k0_pay36, k0_pay29, k0_pay30, k0_pay31, k0_pay33, k0_pay34, k0_pay37, k0_pay38, k0_pay39, k0_pay41, k0_pay42, k0_pay44,
      k0_pay45, k0_pay48, k0_pay49, k0_pay50, k0_pay119, k0_pay120, k0_pay122, k0_pay123,
      k0_pay106, k0_pay107, k0_pay108, k0_pay109, k0_pay110, k0_pay111, k0_pay112, k0_pay71]
  simp only [dite_eq_ite, ite_self]
  rfl

theorem rows_apply (r : Vec Ideal S64x64x256 .f32) (n : Fin 4096) (p : Fin 256) :
    rows r (ix2 n p) = r (ix3 (⟨n.val / 64, by omega⟩ : Fin 64) (⟨n.val % 64, by omega⟩ : Fin 64) p) := by
  unfold rows
  pointwise

/-- The codes of the picked scale. -/
theorem codeMat_apply (v3 : FVec Ideal S8x256 .f32) (hS : S = ![sc0 v3, sc1 v3, sc2 v3, sc3 v3, sc4 v3, sc5 v3, sc6 v3, sc7 v3])
    (w : Vec Ideal S1x1x256 .i32) (r : Vec Ideal S64x64x256 .f32) (n : Fin 4096) (p : Fin 256) :
    codeMat v3 w r (ix2 n p) = pick (w (ix3 0 0 p)) fun k => cl (rows r (ix2 n p) * Ideal.div 1 (S k (ix2 0 p))) := by
  refine View.canon_eq_of_allAt _ _ _ (codeCover v3 w r _) fun pc hp x hx => ?_
  rcases List.mem_append.mp hp with hp | hp
  · obtain ⟨k, -, rfl⟩ := (mem_loopList _ _ pc).mp hp
    have hv := emb_val (S := S4096x256) (k0_off9 k) S32x128.size (k0_off9_inb k) _ (off9_eq k) x _ hx
    have h0 := hv 0
    have h1 := hv 1
    obtain ⟨i, q, rfl⟩ : ∃ (i : Fin 32) (q : Fin 128), x = (ix2 i q : S32x128.Idx) := ⟨x 0, x 1, by funext a; fin_cases a <;> rfl⟩
    replace h0 : n.val = 32 * k.val + i.val := h0
    replace h1 : p.val = 128 + q.val := h1
    have e := code4_apply S w (View.ld (rows r) (Rect.unit (s := S4096x256) (k0_off9 k) S32x128.size (k0_off9_inb k))) i q
    have eb : View.ld (rows r) (Rect.unit (s := S4096x256) (k0_off9 k) S32x128.size (k0_off9_inb k)) (ix2 i q) = rows r (ix2 n p) :=
      ld_val (rows r) (k0_off9 k) S32x128.size (k0_off9_inb k) _ (off9_eq k) (ix2 i q) (ix2 n p) fun a => by
        fin_cases a
        · exact h0
        · exact h1
    rw [eb, show (⟨128 + q.val, by omega⟩ : Fin 256) = p from Fin.ext h1.symm] at e
    subst hS
    exact e
  · obtain ⟨k, -, rfl⟩ := (mem_loopList _ _ pc).mp hp
    have hv := emb_val (S := S4096x256) (k0_off8 k) S32x128.size (k0_off8_inb k) _ (off8_eq k) x _ hx
    have h0 := hv 0
    have h1 := hv 1
    obtain ⟨i, q, rfl⟩ : ∃ (i : Fin 32) (q : Fin 128), x = (ix2 i q : S32x128.Idx) := ⟨x 0, x 1, by funext a; fin_cases a <;> rfl⟩
    replace h0 : n.val = 32 * k.val + i.val := h0
    replace h1 : p.val = 0 + q.val := h1
    have e := code3_apply S w (View.ld (rows r) (Rect.unit (s := S4096x256) (k0_off8 k) S32x128.size (k0_off8_inb k))) i q
    have eb : View.ld (rows r) (Rect.unit (s := S4096x256) (k0_off8 k) S32x128.size (k0_off8_inb k)) (ix2 i q) = rows r (ix2 n p) :=
      ld_val (rows r) (k0_off8 k) S32x128.size (k0_off8_inb k) _ (off8_eq k) (ix2 i q) (ix2 n p) fun a => by
        fin_cases a
        · exact h0
        · exact h1
    rw [eb, show (⟨q.val, by omega⟩ : Fin 256) = p from Fin.ext (by simp only; omega)] at e
    subst hS
    exact e

/-- The last loop stores the transposed codes. -/
theorem block7_apply (m : Vec Ideal S4096x256 .fp8e4m3) (n : Fin 4096) (p : Fin 256) :
    View.canon (pcs5 m) (ix3 0 p n) = m (ix2 n p) := by
  refine canon_loop _ _ _ _ (cover5 m _) fun k x hx => ?_
  have hv := emb_val (S := S1x256x4096) (k0_off11 k) S1x256x128.size (k0_off11_inb k) _ (off11_eq k) x _ hx
  have h1 := hv 1
  have h2 := hv 2
  obtain ⟨i, j, q, rfl⟩ : ∃ (i : Fin 1) (j : Fin 256) (q : Fin 128), x = (ix3 i j q : S1x256x128.Idx) := ⟨x 0, x 1, x 2, by funext a; fin_cases a <;> rfl⟩
  replace h1 : p.val = 0 + j.val := h1
  replace h2 : n.val = 128 * k.val + q.val := h2
  obtain rfl : p = j := Fin.ext (by omega)
  obtain rfl : i = 0 := Subsingleton.elim _ _
  show k0_pay5 (F := Ideal) (View.ld m (Rect.unit (s := S4096x256) (k0_off10 k) S128x256.size (k0_off10_inb k))) (ix3 0 p q) = _
  rw [← show View.ld m (Rect.unit (s := S4096x256) (k0_off10 k) S128x256.size (k0_off10_inb k)) (ix2 q p) = m (ix2 n p) from
    ld_val m (k0_off10 k) S128x256.size (k0_off10_inb k) _ (off10_eq k) (ix2 q p) (ix2 n p) fun a => by
      fin_cases a
      · exact h2
      · exact (Nat.zero_add _).symm]
  generalize View.ld m (Rect.unit (s := S4096x256) (k0_off10 k) S128x256.size (k0_off10_inb k)) = z
  pointwise [k0_pay5]

end Cert.KernelIdeal.Conv

end
-- ==== Proof.ErrBlock.lean ====
module

public import proofs.«01_k».proof.Proof.CodeBlock

/-!
# Scales and summed errors of the rotated block

The eight scales of a row from its maxima, the sums of squared errors the loops carry, and the two small output blocks.
-/

@[expose] public section

set_option maxRecDepth 16384

noncomputable section

namespace Cert.KernelIdeal.Conv

open Cert.KernelIdeal Cert.KernelIdeal.Gen
open Idealize.ShloMosaic Idealize.ShloMosaic.TcCoe
open Cert.Proof

/-! ## Sums in blocks -/

/-- A sum over `m * n` numbers, `n` at a time. -/
theorem sum_blocks (g : ℕ → EReal) (m n : ℕ) :
    ∑ x ∈ Finset.range (m * n), g x = ∑ i ∈ Finset.range m, ∑ j ∈ Finset.range n, g (n * i + j) := by
  induction m with
  | zero => simp
  | succ m ih => rw [Nat.succ_mul, Finset.sum_range_add, ih, Finset.sum_range_succ, Nat.mul_comm m n]

/-- 4096 numbers as eight positions of 128 trips of four numbers each. -/
theorem sum_rows (g : ℕ → EReal) :
    ∑ s : Fin 8, ∑ c ∈ Finset.range 128, ∑ x : Fin 4, g (32 * c + (x.val * 8 + s.val)) = ∑ n : Fin 4096, g n.val := by
  rw [← Finset.sum_range (fun n => g n), show 4096 = 128 * 32 from rfl, sum_blocks, Finset.sum_comm]
  refine Finset.sum_congr rfl fun c _ => ?_
  rw [show 32 = 4 * 8 from rfl, sum_blocks (fun n => g (4 * 8 * c + n)), Finset.sum_comm, Finset.sum_range]
  refine Finset.sum_congr rfl fun x _ => ?_
  rw [Finset.sum_range]
  refine Finset.sum_congr rfl fun s _ => ?_
  rw [Nat.mul_comm x.val 8]

/-- What a carried value shows after all trips, if every trip adds to it. -/
theorem loopFold_sum {α : Type*} {N : ℕ} (f : Fin N → α → α) (init : α) (e : α → EReal) (g : ℕ → EReal)
    (h0 : e init = 0) (h : ∀ (k : Fin N) (a : α), e (f k a) = e a + g k.val) :
    ∀ n ≤ N, e (loopFold f init n) = ∑ c ∈ Finset.range n, g c
  | 0, _ => by rw [loopFold, h0]; simp
  | n + 1, hn => by
    rw [loopFold, dif_pos (Nat.lt_of_succ_le hn), h, loopFold_sum f init e g h0 h n (by omega), Finset.sum_range_succ]

/-! ## The scales -/

/-- The eight scales of the maxima. -/
def scs (v3 : FVec Ideal S8x256 .f32) : Fin 8 → FVec Ideal S1x256 .f32 := ![sc0 v3, sc1 v3, sc2 v3, sc3 v3, sc4 v3, sc5 v3, sc6 v3, sc7 v3]

/-- The greatest of the eight maxima of a column. -/
def top (v3 : FVec Ideal S8x256 .f32) (p : Fin 256) : EReal :=
  Finset.fold max (Ideal.ofBits .f32 4286578688#32) (fun x : Fin 8 => v3 (ix2 x p)) Finset.univ

theorem scs_apply (v3 : FVec Ideal S8x256 .f32) (k : Fin 8) (p : Fin 256) : scs v3 k (ix2 0 p) = scl (ratio k) (top v3 p) := by
  fin_cases k <;> simp only [scs, scl, ratio, top, one_mul]
  · show sc0 v3 (ix2 0 p) = _
    unfold sc0; pointwise [k0_pay57, k0_pay58, k0_pay62, k0_pay59, k0_pay60, k0_pay61, k0_pay63, k0_pay56, k0_pay64, k0_pay65, k0_pay69, k0_pay66, k0_pay67, k0_pay68, k0_pay70]
  · show sc1 v3 (ix2 0 p) = _
    unfold sc1; pointwise [k0_pay57, k0_pay58, k0_pay62, k0_pay59, k0_pay60, k0_pay61, k0_pay63, k0_pay56, k0_pay64, k0_pay65, k0_pay69, k0_pay66, k0_pay67, k0_pay68, k0_pay70]
  · show sc2 v3 (ix2 0 p) = _
    unfold sc2; pointwise [k0_pay57, k0_pay58, k0_pay62, k0_pay59, k0_pay60, k0_pay61, k0_pay63, k0_pay56, k0_pay64, k0_pay65, k0_pay69, k0_pay66, k0_pay67, k0_pay68, k0_pay70]
  · show sc3 v3 (ix2 0 p) = _
    unfold sc3; pointwise [k0_pay57, k0_pay58, k0_pay62, k0_pay59, k0_pay60, k0_pay61, k0_pay63, k0_pay56, k0_pay64, k0_pay65, k0_pay69, k0_pay66, k0_pay67, k0_pay68, k0_pay70]
  · show sc4 v3 (ix2 0 p) = _
    unfold sc4; pointwise [k0_pay57, k0_pay58, k0_pay62, k0_pay59, k0_pay60, k0_pay61, k0_pay63, k0_pay56, k0_pay64, k0_pay65, k0_pay69, k0_pay66, k0_pay67, k0_pay68, k0_pay70]
  · show sc5 v3 (ix2 0 p) = _
    unfold sc5; pointwise [k0_pay57, k0_pay58, k0_pay62, k0_pay59, k0_pay60, k0_pay61, k0_pay63, k0_pay56, k0_pay64, k0_pay65, k0_pay69, k0_pay66, k0_pay67, k0_pay68, k0_pay70]
  · show sc6 v3 (ix2 0 p) = _
    unfold sc6; pointwise [k0_pay57, k0_pay58, k0_pay62, k0_pay59, k0_pay60, k0_pay61, k0_pay63, k0_pay56, k0_pay64, k0_pay65, k0_pay69, k0_pay66, k0_pay67, k0_pay68, k0_pay70]
  · show sc7 v3 (ix2 0 p) = _
    unfold sc7; pointwise [k0_pay57, k0_pay58, k0_pay62, k0_pay59, k0_pay60, k0_pay61, k0_pay63, k0_pay56, k0_pay64, k0_pay65, k0_pay69, k0_pay66, k0_pay67, k0_pay68, k0_pay70]

/-- The block of scales holds the picked one. -/
theorem scaleBlk_apply (v3 : FVec Ideal S8x256 .f32) (w : Vec Ideal S1x1x256 .i32) (p : Fin 256) :
    scaleBlk v3 w (ix3 0 0 p) = pick (w (ix3 0 0 p)) fun k => scl (ratio k) (top v3 p) := by
  unfold scaleBlk sc0 sc1 sc2 sc3 sc4 sc5
  pointwise [k0_pay57, k0_pay58, k0_pay62, k0_pay59, k0_pay60, k0_pay61, k0_pay63, k0_pay56, k0_pay64, k0_pay65, k0_pay69, k0_pay66, k0_pay67, k0_pay68, k0_pay70, k0_pay71, k0_pay72]
  simp only [pick, scl, ratio, top, one_mul]
  rfl

/-! ## The sums of squared errors -/

variable (v3 : FVec Ideal S8x256 .f32) (r : Vec Ideal S64x64x256 .f32)

/-- The squared error of one element at one scale, zero past the last row. -/
def term (k : Fin 8) (p : Fin 256) (n : ℕ) : EReal :=
  if h : n < 4096 then sq (rows r (ix2 ⟨n, h⟩ p) * Ideal.div 1 (scs v3 k (ix2 0 p))) else 0

theorem sumsA_apply (k : Fin 8) (s : Fin 8) (q : Fin 128) :
    comp (sumsA v3 r) k (ix2 s q) = ∑ c ∈ Finset.range 128, ∑ x : Fin 4, term v3 r k ⟨q.val, by omega⟩ (32 * c + (x.val * 8 + s.val)) := by
  unfold sumsA sums3
  refine loopFold_sum _ _ (fun a => comp a k (ix2 s q)) (fun c => ∑ x : Fin 4, term v3 r k ⟨q.val, by omega⟩ (32 * c + (x.val * 8 + s.val)))
    ?_ (fun t a => ?_) 128 le_rfl
  · fin_cases k <;> simp only [comp] <;> pointwise [k0_pay86]
  · refine (acc3_apply (scs v3) _ a k s q).trans (congrArg _ (Finset.sum_congr rfl fun x _ => ?_))
    have ht : t.val < 128 := t.isLt
    rw [term, dif_pos (by omega : 32 * t.val + (x.val * 8 + s.val) < 4096)]
    rw [ld_val (rows r) (k0_off8 t) S32x128.size (k0_off8_inb t) _ (off8_eq t) _ (ix2 ⟨32 * t.val + (x.val * 8 + s.val), by omega⟩ ⟨q.val, by omega⟩) fun a => by
      fin_cases a
      · rfl
      · exact (Nat.zero_add _).symm]

theorem sumsB_apply (k : Fin 8) (s : Fin 8) (q : Fin 128) :
    comp (sumsB v3 r) k (ix2 s q) = ∑ c ∈ Finset.range 128, ∑ x : Fin 4, term v3 r k ⟨128 + q.val, by omega⟩ (32 * c + (x.val * 8 + s.val)) := by
  unfold sumsB sums4
  refine loopFold_sum _ _ (fun a => comp a k (ix2 s q)) (fun c => ∑ x : Fin 4, term v3 r k ⟨128 + q.val, by omega⟩ (32 * c + (x.val * 8 + s.val)))
    ?_ (fun t a => ?_) 128 le_rfl
  · fin_cases k <;> simp only [comp] <;> pointwise [k0_pay117]
  · refine (acc4_apply (scs v3) _ a k s q).trans (congrArg _ (Finset.sum_congr rfl fun x _ => ?_))
    have ht : t.val < 128 := t.isLt
    rw [term, dif_pos (by omega : 32 * t.val + (x.val * 8 + s.val) < 4096)]
    rw [ld_val (rows r) (k0_off9 t) S32x128.size (k0_off9_inb t) _ (off9_eq t) _ (ix2 ⟨32 * t.val + (x.val * 8 + s.val), by omega⟩ ⟨128 + q.val, by omega⟩) fun a => by
      fin_cases a
      · rfl
      · rfl]

/-- The summed error of a column at a scale. -/
def errOf (k : Fin 8) (p : Fin 256) : EReal :=
  (∑ n : Fin 4096, sq (rows r (ix2 n p) * Ideal.div 1 (scs v3 k (ix2 0 p)))) * (scs v3 k (ix2 0 p) * scs v3 k (ix2 0 p))

/-- Eight carried sums of a column, added and scaled back. -/
def rowSumA (v : FVec Ideal S1x256 .f32) (a : FVec Ideal S8x128 .f32) (q : Fin 128) : EReal :=
  (∑ s : Fin 8, a (ix2 s q)) * (v (ix2 0 (⟨q.val, by omega⟩ : Fin 256)) * v (ix2 0 (⟨q.val, by omega⟩ : Fin 256)))
def rowSumB (v : FVec Ideal S1x256 .f32) (a : FVec Ideal S8x128 .f32) (q : Fin 128) : EReal :=
  (∑ s : Fin 8, a (ix2 s q)) * (v (ix2 0 (⟨128 + q.val, by omega⟩ : Fin 256)) * v (ix2 0 (⟨128 + q.val, by omega⟩ : Fin 256)))

theorem sum_term (k : Fin 8) (p : Fin 256) :
    ∑ s : Fin 8, ∑ c ∈ Finset.range 128, ∑ x : Fin 4, term v3 r k p (32 * c + (x.val * 8 + s.val))
      = ∑ n : Fin 4096, sq (rows r (ix2 n p) * Ideal.div 1 (scs v3 k (ix2 0 p))) := by
  rw [sum_rows (term v3 r k p)]
  exact Finset.sum_congr rfl fun n _ => dif_pos n.isLt

theorem rowSumA_eq (k : Fin 8) (q : Fin 128) : rowSumA (scs v3 k) (comp (sumsA v3 r) k) q = errOf v3 r k ⟨0 + q.val, by omega⟩ := by
  have e : (⟨0 + q.val, by omega⟩ : Fin 256) = ⟨q.val, by omega⟩ := Fin.ext (Nat.zero_add _)
  rw [e]
  unfold rowSumA errOf
  rw [← sum_term]
  simp only [sumsA_apply]

theorem rowSumB_eq (k : Fin 8) (q : Fin 128) : rowSumB (scs v3 k) (comp (sumsB v3 r) k) q = errOf v3 r k ⟨128 + q.val, by omega⟩ := by
  unfold rowSumB errOf
  rw [← sum_term]
  simp only [sumsB_apply]

/-- A piece of the block of errors: half a row. -/
theorem errPiece (off : Fin 3 → ℕ) (hin : ∀ a : Fin S1x8x256.rank, off a + S1x1x128.size a ≤ S1x8x256.size a) (K : Fin 8) (o : ℕ) (hoff : off = ![0, K.val, o])
    (ho : o + 128 ≤ 256) (pay : FVec Ideal S1x1x128 .f32) (E : Fin 8 → Fin 256 → EReal)
    (hpay : ∀ q : Fin 128, pay (ix3 0 0 q) = E K ⟨o + q.val, by omega⟩) (k : Fin 8) (p : Fin 256) (x)
    (hx : (Rect.unit (s := S1x8x256) off S1x1x128.size hin).emb x = ix3 0 k p) : pay x = E k p := by
  have hv := emb_val (S := S1x8x256) off S1x1x128.size hin _ hoff x _ hx
  have h1 := hv 1
  have h2 := hv 2
  obtain ⟨i, j, q, rfl⟩ : ∃ (i : Fin 1) (j : Fin 1) (q : Fin 128), x = (ix3 i j q : S1x1x128.Idx) := ⟨x 0, x 1, x 2, by funext a; fin_cases a <;> rfl⟩
  obtain rfl : i = 0 := Subsingleton.elim _ _
  obtain rfl : j = 0 := Subsingleton.elim _ _
  replace h1 : k.val = K.val + 0 := h1
  replace h2 : p.val = o + q.val := h2
  obtain rfl : k = K := Fin.ext h1
  rw [show p = ⟨o + q.val, by omega⟩ from Fin.ext h2]
  exact hpay q

/-- The block of errors. -/
theorem errBlk_apply (a b : Acc Ideal) (ha : a = sumsA v3 r) (hb : b = sumsB v3 r) (k : Fin 8) (p : Fin 256) :
    View.canon (errPieces v3 a b) (ix3 0 k p) = errOf v3 r k p := by
  have hA : ∀ (k : Fin 8) (q : Fin 128), rowSumA (scs v3 k) (comp a k) q = errOf v3 r k ⟨0 + q.val, by omega⟩ := by
    subst ha; exact rowSumA_eq v3 r
  have hB : ∀ (k : Fin 8) (q : Fin 128), rowSumB (scs v3 k) (comp b k) q = errOf v3 r k ⟨128 + q.val, by omega⟩ := by
    subst hb; exact rowSumB_eq v3 r
  clear ha hb
  refine View.canon_eq_of_allAt _ _ _ (errCover v3 a b _) fun pc hp x hx => ?_
  simp only [errPieces, List.mem_cons, List.not_mem_nil, or_false] at hp
  rcases hp with rfl | rfl | rfl | rfl | rfl | rfl | rfl | rfl | rfl | rfl | rfl | rfl | rfl | rfl | rfl | rfl
  · exact errPiece ![0, 7, 128] (by decide) 7 128 rfl (by omega) _ _ (fun q => Eq.trans (show (k0_pay4 (sc7 v3) (comp b 7)) (ix3 0 0 q) = rowSumB (sc7 v3) (comp b 7) q by pointwise [rowSumB, k0_pay4]) (hB 7 q)) k p x hx
  · exact errPiece ![0, 6, 128] (by decide) 6 128 rfl (by omega) _ _ (fun q => Eq.trans (show (k0_pay3 (sc6 v3) (comp b 6)) (ix3 0 0 q) = rowSumB (sc6 v3) (comp b 6) q by pointwise [rowSumB, k0_pay3]) (hB 6 q)) k p x hx
  · exact errPiece ![0, 5, 128] (by decide) 5 128 rfl (by omega) _ _ (fun q => Eq.trans (show (k0_pay2 (sc5 v3) (comp b 5)) (ix3 0 0 q) = rowSumB (sc5 v3) (comp b 5) q by pointwise [rowSumB, k0_pay2]) (hB 5 q)) k p x hx
  · exact errPiece ![0, 4, 128] (by decide) 4 128 rfl (by omega) _ _ (fun q => Eq.trans (show (k0_pay1 (k0_pay131 (sc4 v3) (comp b 4))) (ix3 0 0 q) = rowSumB (sc4 v3) (comp b 4) q by pointwise [rowSumB, k0_pay1, k0_pay131]) (hB 4 q)) k p x hx
  · exact errPiece ![0, 3, 128] (by decide) 3 128 rfl (by omega) _ _ (fun q => Eq.trans (show (k0_pay130 (sc3 v3) (comp b 3)) (ix3 0 0 q) = rowSumB (sc3 v3) (comp b 3) q by pointwise [rowSumB, k0_pay130]) (hB 3 q)) k p x hx
  · exact errPiece ![0, 2, 128] (by decide) 2 128 rfl (by omega) _ _ (fun q => Eq.trans (show (k0_pay129 (sc2 v3) (comp b 2)) (ix3 0 0 q) = rowSumB (sc2 v3) (comp b 2) q by pointwise [rowSumB, k0_pay129]) (hB 2 q)) k p x hx
  · exact errPiece ![0, 1, 128] (by decide) 1 128 rfl (by omega) _ _ (fun q => Eq.trans (show (k0_pay128 (sc1 v3) (comp b 1)) (ix3 0 0 q) = rowSumB (sc1 v3) (comp b 1) q by pointwise [rowSumB, k0_pay128]) (hB 1 q)) k p x hx
  · exact errPiece ![0, 0, 128] (by decide) 0 128 rfl (by omega) _ _ (fun q => Eq.trans (show (k0_pay127 (comp b 0) (k0_pay126 (sc0 v3))) (ix3 0 0 q) = rowSumB (sc0 v3) (comp b 0) q by pointwise [rowSumB, k0_pay127, k0_pay126]) (hB 0 q)) k p x hx
  · exact errPiece ![0, 7, 0] (by decide) 7 0 rfl (by omega) _ _ (fun q => Eq.trans (show (k0_pay105 (sc7 v3) (comp a 7)) (ix3 0 0 q) = rowSumA (sc7 v3) (comp a 7) q by pointwise [rowSumA, k0_pay105]) (hA 7 q)) k p x hx
  · exact errPiece ![0, 6, 0] (by decide) 6 0 rfl (by omega) _ _ (fun q => Eq.trans (show (k0_pay104 (k0_pay102 (comp a 6)) (k0_pay103 (sc6 v3))) (ix3 0 0 q) = rowSumA (sc6 v3) (comp a 6) q by pointwise [rowSumA, k0_pay104, k0_pay102, k0_pay103]) (hA 6 q)) k p x hx
  · exact errPiece ![0, 5, 0] (by decide) 5 0 rfl (by omega) _ _ (fun q => Eq.trans (show (k0_pay101 (sc5 v3) (comp a 5)) (ix3 0 0 q) = rowSumA (sc5 v3) (comp a 5) q by pointwise [rowSumA, k0_pay101]) (hA 5 q)) k p x hx
  · exact errPiece ![0, 4, 0] (by decide) 4 0 rfl (by omega) _ _ (fun q => Eq.trans (show (k0_pay100 (sc4 v3) (comp a 4)) (ix3 0 0 q) = rowSumA (sc4 v3) (comp a 4) q by pointwise [rowSumA, k0_pay100]) (hA 4 q)) k p x hx
  · exact errPiece ![0, 3, 0] (by decide) 3 0 rfl (by omega) _ _ (fun q => Eq.trans (show (k0_pay99 (sc3 v3) (comp a 3)) (ix3 0 0 q) = rowSumA (sc3 v3) (comp a 3) q by pointwise [rowSumA, k0_pay99]) (hA 3 q)) k p x hx
  · exact errPiece ![0, 2, 0] (by decide) 2 0 rfl (by omega) _ _ (fun q => Eq.trans (show (k0_pay98 (sc2 v3) (comp a 2)) (ix3 0 0 q) = rowSumA (sc2 v3) (comp a 2) q by pointwise [rowSumA, k0_pay98]) (hA 2 q)) k p x hx
  · exact errPiece ![0, 1, 0] (by decide) 1 0 rfl (by omega) _ _ (fun q => Eq.trans (show (k0_pay97 (k0_pay96 (sc1 v3) (comp a 1))) (ix3 0 0 q) = rowSumA (sc1 v3) (comp a 1) q by pointwise [rowSumA, k0_pay97, k0_pay96]) (hA 1 q)) k p x hx
  · exact errPiece ![0, 0, 0] (by decide) 0 0 rfl (by omega) _ _ (fun q => Eq.trans (show (k0_pay95 (sc0 v3) (comp a 0)) (ix3 0 0 q) = rowSumA (sc0 v3) (comp a 0) q by pointwise [rowSumA, k0_pay95]) (hA 0 q)) k p x hx

end Cert.KernelIdeal.Conv

end
-- ==== Proof.BlockValue.lean ====
module

public import proofs.«01_k».proof.Proof.ErrBlock
public import proofs.«01_k».proof.Proof.Row

/-!
# What the body leaves, as mathematics of a row

The matrices the kernel multiplies by are Kronecker products with an identity: most terms of the long sums are zero, and what is
left is the rotation of a row by two factors. The three-part product is the rotation up to infinite values (`Alike`), and the
codes, the scale and the errors of a row do not see that difference.
-/

@[expose] public section

set_option maxRecDepth 16384

noncomputable section

namespace Cert.Proof

open Idealize.ShloMosaic

/-! ## A row rotated, quantised, and its errors -/

/-- A row of 4096 numbers, as a matrix of 64 by 64, multiplied by a factor from each side and scaled by 1/64. -/
def rotRow (X : Fin 4096 → EReal) (ha hb : Fin 64 → Fin 64 → EReal) (n : Fin 4096) : EReal :=
  (∑ a : Fin 64, ha a ⟨n.val / 64, by omega⟩ * ∑ b : Fin 64, X ⟨a.val * 64 + b.val, by omega⟩ * hb b ⟨n.val % 64, by omega⟩) * Ideal.ofBits .f32 1015021568#32

/-- The greatest magnitude of a row. -/
def amax (r : Fin 4096 → EReal) : EReal :=
  Finset.fold max (Ideal.ofBits .f32 4286578688#32) (fun n => max (r n) (-(r n))) Finset.univ

theorem amax_isMax (r : Fin 4096 → EReal) : IsMax (amax r) r := isMax_fold r

/-- The code of an element at the picked scale. -/
def codeOf (w : BitVec 32) (r : Fin 4096 → EReal) (n : Fin 4096) : EReal := cl (Ideal.div (r n) (scl (pick w ratio) (amax r)))

/-- The summed squared error of a row at a scale. -/
def errSum (q : EReal) (r : Fin 4096 → EReal) : EReal :=
  if amax r < Ideal.ofBits .f32 2139095040#32 then
    ∑ n, (r n - cl (Ideal.div (r n) (scl q (amax r))) * scl q (amax r)) * (r n - cl (Ideal.div (r n) (scl q (amax r))) * scl q (amax r)) else 0

/-! ## Sums with few terms -/

/-- A sum over pairs. -/
theorem sum_pairs {N : ℕ} (m n : ℕ) (h : m * n = N) (f : Fin N → EReal) :
    ∑ k, f k = ∑ i : Fin m, ∑ j : Fin n, f ⟨n * i.val + j.val, by
      have h1 : n * i.val + n ≤ n * m := by rw [← Nat.mul_succ]; exact Nat.mul_le_mul_left n i.isLt
      rw [← h, Nat.mul_comm m n]; omega⟩ := by
  subst h
  rw [← Fintype.sum_prod_type', ← Fintype.sum_equiv finProdFinEquiv (fun x => f (finProdFinEquiv x)) f fun _ => rfl]
  refine Finset.sum_congr rfl fun x _ => congrArg f (Fin.ext ?_)
  simp [finProdFinEquiv, Nat.add_comm]

/-- An entry of an identity matrix. -/
theorem eye_eq (a b : ℕ) (ha : a < 4096) (hb : b < 4096) :
    FloatOps.uitofp (F := Ideal) .f32 (IntOp.cmpi .eq (IntOp.addi (BitVec.ofNat 32 a) 0#32) (BitVec.ofNat 32 b)) = if a = b then (1 : EReal) else 0 := by
  have e : IntOp.addi (BitVec.ofNat 32 a) 0#32 = BitVec.ofNat 32 a := BitVec.add_zero _
  rw [e]
  by_cases h : a = b
  · subst h; rw [if_pos rfl]
    show FloatOps.uitofp (F := Ideal) .f32 (BitVec.ofBool (BitVec.ofNat 32 a == BitVec.ofNat 32 a)) = 1
    rw [beq_self_eq_true]
    show ((((BitVec.ofBool true).toNat : ℝ)) : EReal) = 1
    simp
  · rw [if_neg h]
    have h' : (BitVec.ofNat 32 a == BitVec.ofNat 32 b) = false := by
      rw [beq_eq_false_iff_ne]
      intro he
      have := congrArg BitVec.toNat he
      rw [BitVec.toNat_ofNat, BitVec.toNat_ofNat, Nat.mod_eq_of_lt (by omega), Nat.mod_eq_of_lt (by omega)] at this
      exact h this
    show FloatOps.uitofp (F := Ideal) .f32 (BitVec.ofBool (BitVec.ofNat 32 a == BitVec.ofNat 32 b)) = 0
    rw [h']
    show ((((BitVec.ofBool false).toNat : ℝ)) : EReal) = 0
    simp

end Cert.Proof

namespace Cert.KernelIdeal.Conv

open Cert.KernelIdeal Cert.KernelIdeal.Gen
open Idealize.ShloMosaic Idealize.ShloMosaic.TcCoe
open Cert.Proof

variable (x0 : Vec Ideal S1x256x4096 .fp8e4m3) (x1 : Vec Ideal S1x1x2x4096 .f32) (x2 : Vec Ideal S1x1x4096 .f32)
  (x3 : Vec Ideal S256x256 .bf16) (x4 : Vec Ideal S512x512 .bf16) (x6 : Vec Ideal S1x1x256 .i32) (ha hb : Fin 64 → Fin 64 → EReal)

/-- The left matrix: a factor repeated along the diagonal. -/
def IsKronL : Prop := ∀ a b : Fin 256, x3 (ix2 a b) = (if a.val / 64 = b.val / 64 then 1 else 0) * hb ⟨b.val % 64, by omega⟩ ⟨a.val % 64, by omega⟩

/-- The right matrix: a factor over 64 with every entry spread over a diagonal. -/
def IsKronR : Prop := ∀ a b : Fin 512, x4 (ix2 a b) = Ideal.div (ha ⟨b.val / 8, by omega⟩ ⟨a.val / 8, by omega⟩) (Ideal.ofBits .f32 1115684864#32) * (if a.val % 8 = b.val % 8 then 1 else 0)

/-- The first product, its zero terms left out. -/
theorem first_eq (h3 : IsKronL x3 hb) (a b : Fin 64) (p : Fin 256) :
    View.canon (pcs1 x0 x1 x2 x3) (ix3 a b p) = ∑ k : Fin 64, dec x0 x1 x2 p ⟨a.val * 64 + k.val, by omega⟩ * hb k b := by
  rw [first_apply, sum_pairs 4 64 rfl]
  rw [Finset.sum_eq_single (⟨a.val % 4, by omega⟩ : Fin 4)]
  · refine Finset.sum_congr rfl fun k _ => ?_
    rw [h3, if_pos (by simp only; omega), one_mul, mul_comm]
    refine congrArg₂ (· * ·) (congrArg _ (Fin.ext ?_)) (congrArg₂ _ (Fin.ext ?_) (Fin.ext ?_)) <;> simp only <;> omega
  · intro i _ hi
    refine Finset.sum_eq_zero fun k _ => ?_
    have hi' : i.val ≠ a.val % 4 := fun h => hi (Fin.ext h)
    rw [h3, if_neg (by simp only; omega), zero_mul, zero_mul]
  · intro h; exact absurd (Finset.mem_univ _) h

/-- A long sum of the second product, its zero terms left out. -/
theorem long_eq (h4 : IsKronR x4 ha) (i j : Fin 64) (f : Fin 64 → Fin 64 → EReal) :
    ∑ s : Fin 512, x4 (ix2 (⟨i.val * 8 + j.val % 8, by omega⟩ : Fin 512) s) * f ⟨s.val / 8, by omega⟩ ⟨8 * (j.val / 8) + s.val % 8, rotCol_lt j s⟩
      = ∑ a : Fin 64, ha a i * ((1 / 64 : ℝ) : EReal) * f a j := by
  rw [sum_pairs 64 8 rfl]
  refine Finset.sum_congr rfl fun a _ => ?_
  rw [Finset.sum_eq_single (⟨j.val % 8, by omega⟩ : Fin 8)]
  · rw [h4, if_pos (by simp only; omega), mul_one, c64_eq, Ideal.div_coe (by norm_num : (64 : ℝ) ≠ 0)]
    refine congrArg₂ (· * ·) (congrArg₂ (· * ·) (congrArg₂ _ (Fin.ext ?_) (Fin.ext ?_)) ?_) (congrArg₂ _ (Fin.ext ?_) (Fin.ext ?_)) <;> try (simp only; omega)
    norm_num
  · intro k _ hk
    have hk' : k.val ≠ j.val % 8 := fun h => hk (Fin.ext h)
    rw [h4, if_neg (by simp only; omega), mul_zero, zero_mul]
  · intro h; exact absurd (Finset.mem_univ _) h

/-- The rotated block is the rotation of its rows, up to infinite values. -/
theorem rot_alike (h3 : IsKronL x3 hb) (h4 : IsKronR x4 ha) (n : Fin 4096) (p : Fin 256) :
    Alike (rows (rot x0 x1 x2 x3 x4) (ix2 n p)) (rotRow (dec x0 x1 x2 p) ha hb n) := by
  rw [rows_apply, rot, second_apply, tri]
  set t := View.canon (pcs1 x0 x1 x2 x3) with ht
  rw [long_eq x4 ha h4 _ _ fun a j => t (ix3 a j p), long_eq x4 ha h4 _ _ fun a j => t (ix3 a j p) - t (ix3 a j p),
    long_eq x4 ha h4 _ _ fun a j => t (ix3 a j p) - t (ix3 a j p) - (t (ix3 a j p) - t (ix3 a j p))]
  have e := split_alike (fun a => ha a ⟨n.val / 64, by omega⟩) (fun a => t (ix3 a (⟨n.val % 64, by omega⟩ : Fin 64) p)) (1 / 64) (by norm_num)
  rw [rotRow, inv64_eq]
  refine (congrArg₂ Alike rfl ?_).mp e
  refine congrArg (· * _) (Finset.sum_congr rfl fun a _ => ?_)
  rw [ht, first_eq x0 x1 x2 x3 hb h3]

/-- The greatest of the maxima is the greatest magnitude of the block's row. -/
theorem top_isMax (p : Fin 256) : IsMax (top (mx x0 x1 x2 x3 x4) p) fun n : Fin 4096 => rows (rot x0 x1 x2 x3 x4) (ix2 n p) := fun c => by
  rw [top, Finset.fold_max_le, ninf_eq]
  constructor
  · rintro ⟨-, h⟩ n
    beta_reduce
    rw [rows_apply, rot, second_apply]
    have h' := ((maxs_le x4 _ (⟨n.val % 64 % 8, by omega⟩ : Fin 8) p c 8).mp (h _ (Finset.mem_univ _))).2
    exact h' _ _ rfl (by simp only; omega)
  · intro h
    have h0 : 0 ≤ c := (Cert.Proof.abs_nonneg _).trans (h 0)
    refine ⟨bot_le, fun s _ => (maxs_le x4 _ s p c 8).mpr ⟨h0, fun i j _ _ => ?_⟩⟩
    have e := h ⟨i.val * 64 + j.val, by omega⟩
    beta_reduce at e
    rw [rows_apply, rot, second_apply] at e
    have e1 : (⟨(i.val * 64 + j.val) / 64, by omega⟩ : Fin 64) = i := Fin.ext (by simp only; omega)
    have e2 : (⟨(i.val * 64 + j.val) % 64, by omega⟩ : Fin 64) = j := Fin.ext (by simp only; omega)
    simp only [e1, e2] at e
    exact e

variable (h3 : IsKronL x3 hb) (h4 : IsKronR x4 ha)
include h3 h4

theorem top_eq (p : Fin 256) : top (mx x0 x1 x2 x3 x4) p = amax (rotRow (dec x0 x1 x2 p) ha hb) :=
  (top_isMax x0 x1 x2 x3 x4 p).eq (isMax_fold _) fun n => rot_alike x0 x1 x2 x3 x4 ha hb h3 h4 n p

/-- The block of codes. -/
theorem codes_eq (n : Fin 4096) (p : Fin 256) :
    View.canon (pcs5 (codeMat (mx x0 x1 x2 x3 x4) (ridxOf x6) (rot x0 x1 x2 x3 x4))) (ix3 0 p n)
      = codeOf (ridxOf x6 (ix3 0 0 p)) (rotRow (dec x0 x1 x2 p) ha hb) n := by
  rw [block7_apply, codeMat_apply (scs (mx x0 x1 x2 x3 x4)) _ rfl]
  simp only [scs_apply, top_eq x0 x1 x2 x3 x4 ha hb h3 h4]
  rw [codeOf]
  obtain ⟨k, hk⟩ := pick_spec (ridxOf x6 (ix3 0 0 p))
  rw [hk, hk, quot_eq (u := fun n => rows (rot x0 x1 x2 x3 x4) (ix2 n p)) (ratio_pos k) (amax_isMax (rotRow (dec x0 x1 x2 p) ha hb))
    (fun n => rot_alike x0 x1 x2 x3 x4 ha hb h3 h4 n p) n]

/-- The block of scales. -/
theorem scale_eq (p : Fin 256) :
    scaleBlk (mx x0 x1 x2 x3 x4) (ridxOf x6) (ix3 0 0 p)
      = scl (pick (ridxOf x6 (ix3 0 0 p)) ratio) (amax (rotRow (dec x0 x1 x2 p) ha hb)) := by
  rw [scaleBlk_apply, pick_scl, top_eq x0 x1 x2 x3 x4 ha hb h3 h4]

/-- The block of errors. -/
theorem errs_eq (k : Fin 8) (p : Fin 256) :
    View.canon (errPieces (mx x0 x1 x2 x3 x4) (sumsA (mx x0 x1 x2 x3 x4) (rot x0 x1 x2 x3 x4)) (sumsB (mx x0 x1 x2 x3 x4) (rot x0 x1 x2 x3 x4))) (ix3 0 k p)
      = errSum (ratio k) (rotRow (dec x0 x1 x2 p) ha hb) := by
  rw [errBlk_apply _ _ _ _ rfl rfl, errOf]
  simp only [scs_apply, top_eq x0 x1 x2 x3 x4 ha hb h3 h4]
  exact err_eq (u := fun n => rows (rot x0 x1 x2 x3 x4) (ix2 n p)) (ratio_pos k) (amax_isMax (rotRow (dec x0 x1 x2 p) ha hb))
    (fun n => rot_alike x0 x1 x2 x3 x4 ha hb h3 h4 n p)

end Cert.KernelIdeal.Conv

end
-- ==== Proof.PlainValue.lean ====
module

public import proofs.«01_k».proof.Proof.PlainRun
public import proofs.«01_k».proof.Proof.BlockValue
public import Idealize.ShloMosaic.Lib.Pipeline.ValueKit

/-!
# The reference, element by element

Every result of the reference at one index, as the mathematics of one row.
-/

@[expose] public section

set_option maxRecDepth 16384

noncomputable section

namespace Cert.ReferenceIdeal.Plain

open Cert.ReferenceIdeal Cert.ReferenceIdeal.Gen
open Idealize.ShloMosaic Idealize.ShloMosaic.TcCoe
open Cert.Proof

section Args

variable (a0 : Vec Ideal S3x3584x4096 .fp8e4m3) (a1 : Vec Ideal S3x28x32 .f32) (a2 : Vec Ideal S3x4096 .f32) (a3 : Vec Ideal S4096 .f32)
  (a4 : Vec Ideal S64x64 .bf16) (a5 : Vec Ideal S64x64 .bf16) (a6 : Vec Ideal S3x3584 .i32)

/-- A row of the weight: the code times its block's scale, times the folded sign. -/
def wrow (l : Fin 3) (p : Fin 3584) (n : Fin 4096) : EReal :=
  a0 (ix3 l p n) * a1 (ix3 l (⟨p.val / 128, by omega⟩ : Fin 28) (⟨n.val / 128, by omega⟩ : Fin 32)) * (a2 (ix2 l n) * a3 (ix1 n))

/-- The row rotated. -/
def rrow (l : Fin 3) (p : Fin 3584) : Fin 4096 → EReal :=
  rotRow (wrow a0 a1 a2 a3 l p) (fun a i => a4 (ix2 a i)) (fun x b => a5 (ix2 x b))

theorem rot_apply (l : Fin 3) (p : Fin 3584) (n : Fin 4096) : k0_pay27 a0 a1 a2 a3 a4 a5 a6 (ix3 l p n) = rrow a0 a1 a2 a3 a4 a5 l p n := by
  unfold k0_pay27
  simp only [rrow, rotRow, wrow]
  pointwise [k0_pay3]
  simp only [Nat.div_add_mod']

theorem amax_apply (l : Fin 3) (p : Fin 3584) : k0_pay28 a0 a1 a2 a3 a4 a5 a6 (ix2 l p) = amax (rrow a0 a1 a2 a3 a4 a5 l p) := by
  rw [amax]
  simp only [← rot_apply a0 a1 a2 a3 a4 a5 a6]
  unfold k0_pay27 k0_pay28 k0_pay4
  generalize k0_pay3 (View.ld a0 r0_0) (View.ld a1 r0_1) (View.ld a2 r0_2) (View.ld a3 r0_3) (View.ld a5 r0_4) (View.ld a4 r0_4) = z
  pointwise
  rfl

end Args

/-! ## From the rotated rows and their greatest magnitudes -/

variable (v30 : FVec Ideal S3x3584x4096 .f32) (v32 : FVec Ideal S3x3584 .f32) (w : Vec Ideal S3x3584 .i32)

theorem scale_apply (l : Fin 3) (p : Fin 3584) : k0_pay25 v32 w (ix2 l p) = scl (pick (w (ix2 l p)) ratio) (v32 (ix2 l p)) := by
  simp only [scl, pick, ratio]
  pointwise [k0_pay25]
  try rfl

theorem scale3_apply (l : Fin 3) (p : Fin 3584) : k0_pay2 (k0_pay25 v32 w) (ix3 l 0 p) = scl (pick (w (ix2 l p)) ratio) (v32 (ix2 l p)) := by
  rw [← scale_apply]
  generalize k0_pay25 v32 w = z
  pointwise [k0_pay2]

theorem code_apply (l : Fin 3) (p : Fin 3584) (n : Fin 4096) :
    k0_pay1 v30 (k0_pay26 v32 w) (ix3 l p n) = cl (Ideal.div (v30 (ix3 l p n)) (scl (pick (w (ix2 l p)) ratio) (v32 (ix2 l p)))) := by
  rw [← scale_apply]
  unfold k0_pay26
  generalize k0_pay25 v32 w = z
  simp only [cl]
  pointwise [k0_pay1]

/-- The summed error of a row at a ratio. -/
def errs (q : EReal) (l : Fin 3) (p : Fin 3584) : EReal :=
  if v32 (ix2 l p) < Ideal.ofBits .f32 2139095040#32 then
    ∑ n : Fin 4096, (v30 (ix3 l p n) - cl (Ideal.div (v30 (ix3 l p n)) (scl q (v32 (ix2 l p)))) * scl q (v32 (ix2 l p)))
      * (v30 (ix3 l p n) - cl (Ideal.div (v30 (ix3 l p n)) (scl q (v32 (ix2 l p)))) * scl q (v32 (ix2 l p))) else 0

theorem row7 (l : Fin 3) (p : Fin 3584) : k0_pay24 v30 v32 (ix3 l 0 p) = errs v30 v32 (ratio 7) l p := by
  simp only [errs, scl, ratio, cl]
  pointwise [k0_pay24]
theorem row6 (l : Fin 3) (p : Fin 3584) : k0_pay23 v32 (k0_pay22 v30 v32) (Scalar.ofBits .f32 0x7F800000#32) (ix3 l 0 p) = errs v30 v32 (ratio 6) l p := by
  simp only [errs, scl, ratio, cl]
  pointwise [k0_pay23, k0_pay22]
theorem row5 (l : Fin 3) (p : Fin 3584) : k0_pay21 v30 v32 (k0_pay19 v32) (k0_pay20 v30 v32) (Scalar.ofBits .f32 0xC3E00000#32) (Scalar.ofBits .f32 0x43E00000#32) (ix3 l 0 p) = errs v30 v32 (ratio 5) l p := by
  simp only [errs, scl, ratio, cl]
  pointwise [k0_pay21, k0_pay19, k0_pay20]
theorem row4 (l : Fin 3) (p : Fin 3584) : k0_pay18 v30 v32 (k0_pay16 v32) (k0_pay17 v32) (ix3 l 0 p) = errs v30 v32 (ratio 4) l p := by
  simp only [errs, scl, ratio, cl]
  pointwise [k0_pay18, k0_pay16, k0_pay17]
theorem row3 (l : Fin 3) (p : Fin 3584) : k0_pay15 v30 v32 (ix3 l 0 p) = errs v30 v32 (ratio 3) l p := by
  simp only [errs, scl, ratio, cl]
  pointwise [k0_pay15]
theorem row2 (l : Fin 3) (p : Fin 3584) : k0_pay14 (k0_pay11 v30 v32) (k0_pay12 v32) (k0_pay13 (F := Ideal)) (ix3 l 0 p) = errs v30 v32 (ratio 2) l p := by
  simp only [errs, scl, ratio, cl]
  pointwise [k0_pay14, k0_pay11, k0_pay12, k0_pay13]
theorem row1 (l : Fin 3) (p : Fin 3584) : k0_pay10 v30 v32 (k0_pay8 v32) (k0_pay9 v30 v32) (ix3 l 0 p) = errs v30 v32 (ratio 1) l p := by
  simp only [errs, scl, ratio, cl]
  pointwise [k0_pay10, k0_pay8, k0_pay9]

/-- A row of the block of errors. -/
theorem errPiece (off : Fin 3 → ℕ) (hin : ∀ a : Fin S3x8x3584.rank, off a + S3x1x3584.size a ≤ S3x8x3584.size a) (K : Fin 8) (hoff : off = ![0, K.val, 0])
    (pay : FVec Ideal S3x1x3584 .f32) (E : Fin 3 → Fin 8 → Fin 3584 → EReal)
    (hpay : ∀ (l : Fin 3) (p : Fin 3584), pay (ix3 l 0 p) = E l K p) (l : Fin 3) (k : Fin 8) (p : Fin 3584) (x)
    (hx : (Rect.unit (s := S3x8x3584) off S3x1x3584.size hin).emb x = ix3 l k p) : pay x = E l k p := by
  have hv := Cert.KernelIdeal.Conv.emb_val (S := S3x8x3584) off S3x1x3584.size hin _ hoff x _ hx
  have h0 := hv 0
  have h1 := hv 1
  have h2 := hv 2
  obtain ⟨i, j, q, rfl⟩ : ∃ (i : Fin 3) (j : Fin 1) (q : Fin 3584), x = (ix3 i j q : S3x1x3584.Idx) := ⟨x 0, x 1, x 2, by funext a; fin_cases a <;> rfl⟩
  obtain rfl : j = 0 := Subsingleton.elim _ _
  replace h0 : l.val = 0 + i.val := h0
  replace h1 : k.val = K.val + 0 := h1
  replace h2 : p.val = 0 + q.val := h2
  obtain rfl : l = i := Fin.ext (by omega)
  obtain rfl : k = K := Fin.ext h1
  obtain rfl : p = q := Fin.ext (by omega)
  exact hpay l p

theorem row0 (l : Fin 3) (p : Fin 3584) :
    k0_pay7 v30 v32 (cmpf .oeq v32 (broadcast S3x3584 (Scalar.ofBits (F := Ideal) .f32 0x00000000#32)))
        (mulf (mulf (broadcast S3x3584 (Scalar.ofBits (F := Ideal) .f32 0x3F800000#32)) v32) (broadcast S3x3584 (Scalar.ofBits (F := Ideal) .f32 0x3F800800#32)))
        (Scalar.ofBits .f32 0x43E00000#32) (ix3 l 0 p)
      = errs v30 v32 (ratio 0) l p := by
  simp only [errs, scl, ratio, cl]
  pointwise [k0_pay7]

/-- The block of errors from its eight rows. -/
theorem errs_canon (z : FVec Ideal S3x1x3584 .f32) (hz : ∀ (l : Fin 3) (p : Fin 3584), z (ix3 l 0 p) = errs v30 v32 (ratio 0) l p) (l : Fin 3) (k : Fin 8) (p : Fin 3584) :
    View.canon ([⟨r0_12, k0_pay24 v30 v32⟩, ⟨r0_11, k0_pay23 v32 (k0_pay22 v30 v32) (Scalar.ofBits .f32 0x7F800000#32)⟩,
      ⟨r0_10, k0_pay21 v30 v32 (k0_pay19 v32) (k0_pay20 v30 v32) (Scalar.ofBits .f32 0xC3E00000#32) (Scalar.ofBits .f32 0x43E00000#32)⟩,
      ⟨r0_9, k0_pay18 v30 v32 (k0_pay16 v32) (k0_pay17 v32)⟩, ⟨r0_8, k0_pay15 v30 v32⟩,
      ⟨r0_7, k0_pay14 (k0_pay11 v30 v32) (k0_pay12 v32) (k0_pay13 (F := Ideal))⟩,
      ⟨r0_6, k0_pay10 v30 v32 (k0_pay8 v32) (k0_pay9 v30 v32)⟩, ⟨r0_5, z⟩] : List (View.Piece (Elt Ideal) S3x8x3584 .f32)) (ix3 l k p)
      = errs v30 v32 (ratio k) l p := by
  refine View.canon_eq_of_allAt _ _ _ (cover0_9 _ _ _ _ _ _ _ _ _) fun pc hp x hx => ?_
  simp only [List.mem_cons, List.not_mem_nil, or_false] at hp
  rcases hp with rfl | rfl | rfl | rfl | rfl | rfl | rfl | rfl
  · exact errPiece ![0, 7, 0] (by decide) 7 rfl _ (fun l k p => errs v30 v32 (ratio k) l p) (row7 v30 v32) l k p x hx
  · exact errPiece ![0, 6, 0] (by decide) 6 rfl _ (fun l k p => errs v30 v32 (ratio k) l p) (row6 v30 v32) l k p x hx
  · exact errPiece ![0, 5, 0] (by decide) 5 rfl _ (fun l k p => errs v30 v32 (ratio k) l p) (row5 v30 v32) l k p x hx
  · exact errPiece ![0, 4, 0] (by decide) 4 rfl _ (fun l k p => errs v30 v32 (ratio k) l p) (row4 v30 v32) l k p x hx
  · exact errPiece ![0, 3, 0] (by decide) 3 rfl _ (fun l k p => errs v30 v32 (ratio k) l p) (row3 v30 v32) l k p x hx
  · exact errPiece ![0, 2, 0] (by decide) 2 rfl _ (fun l k p => errs v30 v32 (ratio k) l p) (row2 v30 v32) l k p x hx
  · exact errPiece ![0, 1, 0] (by decide) 1 rfl _ (fun l k p => errs v30 v32 (ratio k) l p) (row1 v30 v32) l k p x hx
  · exact errPiece ![0, 0, 0] (by decide) 0 rfl _ (fun l k p => errs v30 v32 (ratio k) l p) hz l k p x hx

/-! ## The results -/

variable (a0 : Vec Ideal S3x3584x4096 .fp8e4m3) (a1 : Vec Ideal S3x28x32 .f32) (a2 : Vec Ideal S3x4096 .f32) (a3 : Vec Ideal S4096 .f32)
  (a4 : Vec Ideal S64x64 .bf16) (a5 : Vec Ideal S64x64 .bf16) (a6 : Vec Ideal S3x3584 .i32)

theorem amax_unld : k0_pay4 a0 a1 a2 a3 a5 a4 = k0_pay28 a0 a1 a2 a3 a4 a5 a6 := by
  unfold k0_pay28
  rw [View.ld_unit_zero (S := S3x3584x4096) z3 _ a0, View.ld_unit_zero (S := S3x28x32) z3 _ a1, View.ld_unit_zero (S := S3x4096) z2 _ a2,
    View.ld_unit_zero (S := S4096) z1 _ a3, View.ld_unit_zero (S := S64x64) z2 _ a5, View.ld_unit_zero (S := S64x64) z2 _ a4]

theorem pay5_eq : k0_pay5 a0 a1 a2 a3 a5 a4 = cmpf .oeq (k0_pay4 a0 a1 a2 a3 a5 a4) (broadcast S3x3584 (Scalar.ofBits (F := Ideal) .f32 0x00000000#32)) := by
  unfold k0_pay5; rfl

theorem pay6_eq : k0_pay6 a0 a1 a2 a3 a5 a4 = mulf (mulf (broadcast S3x3584 (Scalar.ofBits (F := Ideal) .f32 0x3F800000#32)) (k0_pay4 a0 a1 a2 a3 a5 a4))
    (broadcast S3x3584 (Scalar.ofBits (F := Ideal) .f32 0x3F800800#32)) := by
  unfold k0_pay6; rfl

theorem G7_apply (l : Fin 3) (p : Fin 3584) (n : Fin 4096) :
    G7 a0 a1 a2 a3 a4 a5 a6 (ix3 l p n) = codeOf (a6 (ix2 l p)) (rrow a0 a1 a2 a3 a4 a5 l p) n := by
  unfold G7
  rw [code_apply, rot_apply, amax_apply, codeOf]

theorem G8_apply (l : Fin 3) (p : Fin 3584) :
    G8 a0 a1 a2 a3 a4 a5 a6 (ix3 l 0 p) = scl (pick (a6 (ix2 l p)) ratio) (amax (rrow a0 a1 a2 a3 a4 a5 l p)) := by
  unfold G8
  rw [scale3_apply, amax_apply]

theorem errs_row (k : Fin 8) (l : Fin 3) (p : Fin 3584) :
    errs (k0_pay27 a0 a1 a2 a3 a4 a5 a6) (k0_pay28 a0 a1 a2 a3 a4 a5 a6) (ratio k) l p = errSum (ratio k) (rrow a0 a1 a2 a3 a4 a5 l p) := by
  unfold errs errSum
  simp only [rot_apply, amax_apply]

theorem G9_apply (l : Fin 3) (k : Fin 8) (p : Fin 3584) :
    G9 a0 a1 a2 a3 a4 a5 a6 (ix3 l k p) = errSum (ratio k) (rrow a0 a1 a2 a3 a4 a5 l p) := by
  refine Eq.trans ?_ (errs_row a0 a1 a2 a3 a4 a5 a6 k l p)
  refine errs_canon (k0_pay27 a0 a1 a2 a3 a4 a5 a6) (k0_pay28 a0 a1 a2 a3 a4 a5 a6) _ (fun l p => ?_) l k p
  rw [pay5_eq, pay6_eq, amax_unld a0 a1 a2 a3 a4 a5 a6]
  exact row0 _ _ l p

end Cert.ReferenceIdeal.Plain

end
-- ==== Proof.KernelValue.lean ====
module

public import proofs.«01_k».proof.Proof.FrameKernelIdeal
public import proofs.«01_k».proof.Proof.PlainValue
public import Idealize.ShloMosaic.Lib.Pipeline.ValueKit

/-!
# The kernel's arrays, element by element

The blocks the kernel is given at each grid point, read from the arguments, and the three arrays it leaves: those of the
reference.
-/

@[expose] public section

set_option maxRecDepth 16384

noncomputable section

namespace Cert.KernelIdeal.Conv

open Cert.KernelIdeal Cert.KernelIdeal.Gen
open Idealize.ShloMosaic Idealize.ShloMosaic.TcCoe
open Idealize.ShloMosaic.Pipeline (Dat)
open Cert.Proof
open Cert.ReferenceIdeal.Plain (wrow rrow)

variable (m : (ℓ : Loc nD τ sig) → Buf (Elt Ideal) ℓ)

/-! ## The arguments, as arrays -/

abbrev A0 (c : Dev nD) : Vec Ideal S3x3584x4096 .fp8e4m3 := m ((c : Thread nD τ).loc main_arg0)
abbrev A1 (c : Dev nD) : Vec Ideal S3x28x32 .f32 := m ((c : Thread nD τ).loc main_arg1)
abbrev A2 (c : Dev nD) : Vec Ideal S3x4096 .f32 := m ((c : Thread nD τ).loc main_arg2)
abbrev A3 (c : Dev nD) : Vec Ideal S4096 .f32 := m ((c : Thread nD τ).loc main_arg3)
abbrev A4 (c : Dev nD) : Vec Ideal S64x64 .bf16 := m ((c : Thread nD τ).loc main_arg4)
abbrev A5 (c : Dev nD) : Vec Ideal S64x64 .bf16 := m ((c : Thread nD τ).loc main_arg5)
abbrev A7 (c : Dev nD) : Vec Ideal S3x3584 .i32 := m ((c : Thread nD τ).loc main_arg7)

/-! ## The operands the host makes -/

theorem entry_kronL (c : Dev nD) (a b : Fin 256) : V m c main_v17 (ix2 a b)
    = (if a.val / 64 = b.val / 64 then (1 : EReal) else 0) * A5 m c (ix2 (⟨b.val % 64, by omega⟩ : Fin 64) (⟨a.val % 64, by omega⟩ : Fin 64)) := by
  rw [← eye_eq _ _ (by omega) (by omega)]
  entry_read
  pointwise

theorem entry_kronR (c : Dev nD) (a b : Fin 512) : V m c main_v34 (ix2 a b)
    = Ideal.div (A4 m c (ix2 (⟨b.val / 8, by omega⟩ : Fin 64) (⟨a.val / 8, by omega⟩ : Fin 64))) (Ideal.ofBits .f32 1115684864#32)
      * (if a.val % 8 = b.val % 8 then (1 : EReal) else 0) := by
  rw [← eye_eq _ _ (by omega) (by omega)]
  entry_read
  pointwise

theorem entry_scale (c : Dev nD) (l : Fin 3) (i : Fin 14) (p : Fin 2) (n : Fin 4096) : V m c main_v51 (ix4 l i p n)
    = A1 m c (ix3 l (⟨i.val * 2 + p.val, by omega⟩ : Fin 28) (⟨n.val / 128, by omega⟩ : Fin 32)) := by
  entry_read
  pointwise

theorem entry_fold (c : Dev nD) (l : Fin 3) (n : Fin 4096) : V m c main_v52 (ix3 l 0 n)
    = A2 m c (ix2 l n) * A3 m c (ix1 n) := by
  entry_read
  pointwise

theorem entry_ridx (c : Dev nD) (l : Fin 3) (n : Fin 3584) : V m c main_v53 (ix3 l 0 n) = A7 m c (ix2 l n) := by
  entry_read
  pointwise

/-! ## The blocks of a grid point -/

theorem idx : ∀ t : Fin cfg0.N, win0_0.index t = ![(grid0.coords t 0).val, (grid0.coords t 1).val, 0]
    ∧ win0_1.index t = ![(grid0.coords t 0).val, (grid0.coords t 1).val, 0, 0] ∧ win0_2.index t = ![(grid0.coords t 0).val, 0, 0]
    ∧ win0_3.index t = ![0, 0] ∧ win0_4.index t = ![0, 0] ∧ win0_6.index t = ![(grid0.coords t 0).val, 0, (grid0.coords t 1).val]
    ∧ win0_7.index t = ![(grid0.coords t 0).val, (grid0.coords t 1).val, 0] ∧ win0_8.index t = ![(grid0.coords t 0).val, 0, (grid0.coords t 1).val]
    ∧ win0_9.index t = ![(grid0.coords t 0).val, 0, (grid0.coords t 1).val] :=
  (by decide +kernel : ∀ t : Fin grid0.N, _)

/-- The layer and the row block of a grid point. -/
def lay (t : Fin cfg0.N) : Fin 3 := grid0.coords t 0
def rb (t : Fin cfg0.N) : Fin 14 := grid0.coords t 1

/-- The array's row a block's row is. -/
def rowOf (t : Fin cfg0.N) (p : Fin 256) : Fin 3584 := ⟨(rb t).val * 256 + p.val, by have := (rb t).isLt; omega⟩

theorem blk0 (c : Dev nD) (t : Fin cfg0.N) (p : Fin 256) (n : Fin 4096) :
    iblk m c 0 t (ix3 0 p n) = A0 m c (ix3 (lay t) (rowOf t p) n) := by
  rw [A0, ← V_main_arg0 m c]
  blk_ext [iblk, idx t, lay, rb, rowOf]

theorem blk1 (c : Dev nD) (t : Fin cfg0.N) (p : Fin 2) (n : Fin 4096) :
    iblk m c 1 t (ix4 0 0 p n) = V m c main_v51 (ix4 (lay t) (rb t) p n) := by
  blk_ext [iblk, idx t, lay, rb, rowOf]

theorem blk2 (c : Dev nD) (t : Fin cfg0.N) (n : Fin 4096) :
    iblk m c 2 t (ix3 0 0 n) = V m c main_v52 (ix3 (lay t) 0 n) := by
  blk_ext [iblk, idx t, lay, rb, rowOf]

theorem blk3 (c : Dev nD) (t : Fin cfg0.N) (a b : Fin 256) :
    iblk m c 3 t (ix2 a b) = V m c main_v17 (ix2 a b) := by
  blk_ext [iblk, idx t, lay, rb, rowOf]

theorem blk4 (c : Dev nD) (t : Fin cfg0.N) (a b : Fin 512) :
    iblk m c 4 t (ix2 a b) = V m c main_v34 (ix2 a b) := by
  blk_ext [iblk, idx t, lay, rb, rowOf]

theorem blk6 (c : Dev nD) (t : Fin cfg0.N) (p : Fin 256) :
    iblk m c 6 t (ix3 0 0 p) = V m c main_v53 (ix3 (lay t) 0 (rowOf t p)) := by
  blk_ext [iblk, idx t, lay, rb, rowOf]

end Cert.KernelIdeal.Conv

end
-- ==== Proof.Arrays.lean ====
module

public import proofs.«01_k».proof.Proof.KernelValue

/-!
# The arrays the kernel leaves

At every grid point the body leaves its block of the reference's arrays; the blocks cover the arrays.
-/

@[expose] public section

set_option maxRecDepth 16384

noncomputable section

namespace Cert.KernelIdeal.Conv

open Cert.KernelIdeal Cert.KernelIdeal.Gen
open Idealize.ShloMosaic Idealize.ShloMosaic.TcCoe
open Idealize.ShloMosaic.Pipeline (Dat)
open Cert.Proof
open Cert.ReferenceIdeal.Plain (wrow rrow G7 G8 G9 G7_apply G8_apply G9_apply)

variable (m : (ℓ : Loc nD τ sig) → Buf (Elt Ideal) ℓ)

/-! ## The rows of a block -/

/-- The body's products of codes, scales and signs are the weight's row. -/
theorem dec_eq (c : Dev nD) (t : Fin cfg0.N) (p : Fin 256) :
    dec (iblk m c 0 t) (iblk m c 1 t) (iblk m c 2 t) p = wrow (A0 m c) (A1 m c) (A2 m c) (A3 m c) (lay t) (rowOf t p) := by
  funext n
  rw [dec, wrow, blk0, blk1, blk2, entry_scale, entry_fold, ← mul_assoc]
  have e : (⟨(rb t).val * 2 + p.val / 128, by have := (rb t).isLt; omega⟩ : Fin 28) = ⟨(rowOf t p).val / 128, by have := (rowOf t p).isLt; omega⟩ :=
    Fin.ext (by simp only [rowOf]; omega)
  exact congrArg (fun q => A0 m c (ix3 (lay t) (rowOf t p) n) * A1 m c (ix3 (lay t) q (⟨n.val / 128, by omega⟩ : Fin 32)) * (A2 m c (ix2 (lay t) n) * A3 m c (ix1 n))) e

theorem kronL (c : Dev nD) (t : Fin cfg0.N) : IsKronL (iblk m c 3 t) fun x b => A5 m c (ix2 x b) := fun a b => by
  rw [blk3, entry_kronL]

theorem kronR (c : Dev nD) (t : Fin cfg0.N) : IsKronR (iblk m c 4 t) fun a i => A4 m c (ix2 a i) := fun a b => by
  rw [blk4, entry_kronR]

theorem ridx_eq (c : Dev nD) (t : Fin cfg0.N) (p : Fin 256) :
    ridxOf (iblk m c 6 t) (ix3 0 0 p) = A7 m c (ix2 (lay t) (rowOf t p)) := by
  rw [ridxOf, View.ld_unit_zero (S := S1x1x256) (by funext a; fin_cases a <;> rfl), blk6, entry_ridx]

/-- The block of codes. -/
theorem codesAt_eq (c : Dev nD) (t : Fin cfg0.N) (p : Fin 256) (n : Fin 4096) :
    codesAt m c t (ix3 0 p n) = G7 (A0 m c) (A1 m c) (A2 m c) (A3 m c) (A4 m c) (A5 m c) (A7 m c) (ix3 (lay t) (rowOf t p) n) := by
  rw [codesAt, mxAt, rotAt, codes_eq _ _ _ _ _ _ _ _ (kronL m c t) (kronR m c t), G7_apply, ridx_eq, dec_eq]
  rfl

/-- The block of scales. -/
theorem scaleAt_eq (c : Dev nD) (t : Fin cfg0.N) (p : Fin 256) :
    scaleAt m c t (ix3 0 0 p) = G8 (A0 m c) (A1 m c) (A2 m c) (A3 m c) (A4 m c) (A5 m c) (A7 m c) (ix3 (lay t) 0 (rowOf t p)) := by
  rw [scaleAt, mxAt, scale_eq _ _ _ _ _ _ _ _ (kronL m c t) (kronR m c t), G8_apply, ridx_eq, dec_eq]
  rfl

/-- The block of errors. -/
theorem errAt_eq (c : Dev nD) (t : Fin cfg0.N) (k : Fin 8) (p : Fin 256) :
    errAt m c t (ix3 0 k p) = G9 (A0 m c) (A1 m c) (A2 m c) (A3 m c) (A4 m c) (A5 m c) (A7 m c) (ix3 (lay t) k (rowOf t p)) := by
  rw [errAt, mxAt, rotAt, errs_eq _ _ _ _ _ _ _ (kronL m c t) (kronR m c t), G9_apply, dec_eq]
  rfl

/-! ## The arrays after the run -/

/-- The codes. -/
theorem final7 (c : Dev nD) : (dats m 0 c).arrAt 7 cfg0.N = G7 (A0 m c) (A1 m c) (A2 m c) (A3 m c) (A4 m c) (A5 m c) (A7 m c) := by
  refine (dats m 0 c).arrAt_eq_of_covers 7 _ (by decide +kernel) fun t _ y => ?_
  blk_simp
  rw [(after_out m c t).1]
  have e := codesAt_eq m c t
  revert e
  generalize G7 (A0 m c) (A1 m c) (A2 m c) (A3 m c) (A4 m c) (A5 m c) (A7 m c) = G
  generalize codesAt m c t = X
  intro e
  idx_vars y
  obtain rfl : y0 = 0 := Subsingleton.elim _ _
  rw [e y1 y2]
  blk_ext [idx t, lay, rb, rowOf]

/-- The scales. -/
theorem final8 (c : Dev nD) : (dats m 0 c).arrAt 8 cfg0.N = G8 (A0 m c) (A1 m c) (A2 m c) (A3 m c) (A4 m c) (A5 m c) (A7 m c) := by
  refine (dats m 0 c).arrAt_eq_of_covers 8 _ (by decide +kernel) fun t _ y => ?_
  blk_simp
  rw [(after_out m c t).2.1]
  have e := scaleAt_eq m c t
  revert e
  generalize G8 (A0 m c) (A1 m c) (A2 m c) (A3 m c) (A4 m c) (A5 m c) (A7 m c) = G
  generalize scaleAt m c t = X
  intro e
  idx_vars y
  obtain rfl : y0 = 0 := Subsingleton.elim _ _
  obtain rfl : y1 = 0 := Subsingleton.elim _ _
  rw [e y2]
  blk_ext [idx t, lay, rb, rowOf]

/-- The errors. -/
theorem final9 (c : Dev nD) : (dats m 0 c).arrAt 9 cfg0.N = G9 (A0 m c) (A1 m c) (A2 m c) (A3 m c) (A4 m c) (A5 m c) (A7 m c) := by
  refine (dats m 0 c).arrAt_eq_of_covers 9 _ (by decide +kernel) fun t _ y => ?_
  blk_simp
  rw [(after_out m c t).2.2]
  have e := errAt_eq m c t
  revert e
  generalize G9 (A0 m c) (A1 m c) (A2 m c) (A3 m c) (A4 m c) (A5 m c) (A7 m c) = G
  generalize errAt m c t = X
  intro e
  idx_vars y
  obtain rfl : y0 = 0 := Subsingleton.elim _ _
  rw [e y1 y2]
  blk_ext [idx t, lay, rb, rowOf]

end Cert.KernelIdeal.Conv

end
-- ==== Proof.Algebraic.lean ====
module

public import proofs.«01_k».proof.Defs
public import proofs.«01_k».proof.Proof.Arrays

/-!
# The kernel computes the reference's arrays

Both runs end with the codes, the scales and the errors `G7`, `G8`, `G9` of the same arguments.
-/

@[expose] public section

set_option maxRecDepth 16384

noncomputable section

namespace Cert.KernelIdeal.Conv

open Idealize.ShloMosaic Idealize.ShloMosaic.TcCoe Idealize.SL.Sem
open Cert.ReferenceIdeal.Plain (G7 G8 G9)

/-- On the same arguments the kernel's three arrays are the reference's. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => G7 (A0 m c) (A1 m c) (A2 m c) (A3 m c) (A4 m c) (A5 m c) (A7 m c),
    fun c => G8 (A0 m c) (A1 m c) (A2 m c) (A3 m c) (A4 m c) (A5 m c) (A7 m c),
    fun c => G9 (A0 m c) (A1 m c) (A2 m c) (A3 m c) (A4 m c) (A5 m c) (A7 m c), ?_, ?_⟩
  · exact (θ_run _ _ _).mono (fun r h c => ⟨((h.1 c).1 7).trans (final7 m c), ((h.1 c).1 8).trans (final8 m c), ((h.1 c).1 9).trans (final9 m c), h.2 c⟩)
      (θ_run_and (run_main m g) (unchanged m g))
  · refine (θ_run _ _ _).mono (fun r h c => ?_) (θ_run_and (Cert.ReferenceIdeal.Gen.run_main m' g') (Cert.ReferenceIdeal.Gen.frame m' g'))
    obtain ⟨e0, e1, e2, e3, e4, e5, -, e7⟩ := hargs c
    obtain ⟨h7, h8, h9⟩ := Cert.ReferenceIdeal.Plain.final m' c
    simp only [Cert.ReferenceIdeal.Plain.ofArgs] at h7 h8 h9
    rw [e0, e1, e2, e3, e4, e5, e7] at h7 h8 h9
    exact ⟨((h.1 c).1 7).trans h7, ((h.1 c).1 8).trans h8, ((h.1 c).1 9).trans h9, h.2.1 c⟩

end Cert.KernelIdeal.Conv

end
-- ==== Proof.ConvertOut.lean ====
module

public import proofs.«01_k».proof.Proof.Gen.OutIdeal.Frame.Runs
public import proofs.«01_k».proof.Proof.LoopRule

/-!
# The two loops of the body of `OutIdeal`, and the body

One trip of each loop in terms of the payloads of the listing, the loop from what its buffers hold before to what they hold
after, and the body. The first loop scales 256 rows of codes a trip and makes their product with one Hadamard matrix; the second
makes the product with the other, sixteen rows a trip.
-/

@[expose] public section

set_option maxRecDepth 16384

noncomputable section

namespace Cert.OutIdeal.Conv

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S1x4096x256 .fp8e4m3) (harg2 : arg2.IsWhole) (arg3 : Memref sig .tc .vmem S1x32x256 .f32) (harg3 : arg3.IsWhole)
  (arg4 : Memref sig .tc .vmem S4096x256 .bf16) (harg4 : arg4.IsWhole) (arg5 : Memref sig .tc .vmem S512x512 .bf16) (harg5 : arg5.IsWhole)
  (arg6 : Memref sig .tc .vmem S256x256 .bf16) (harg6 : arg6.IsWhole) (arg7 : Memref sig .tc .vmem S1x64x64x256 .bf16) (harg7 : arg7.IsWhole)
  (arg8 : Memref sig .tc .vmem S64x64x256 .f32) (harg8 : arg8.IsWhole)
  (x0 : Vec F S1x4096x256 .fp8e4m3) (x1 : Vec F S1x32x256 .f32) (x2 : Vec F S4096x256 .bf16) (x3 : Vec F S512x512 .bf16) (t : Vec F S64x64x256 .f32)

/-! ## The first product: 256 rows a trip -/

/-- What trip `k` makes of what it loads. -/
def val1 (k : Fin k0_t1_loop.trips) : FVec F S4x64x256 .f32 :=
  k0_pay1 (k0_pay3 (View.ld x0 (Rect.unit (s := S1x4096x256) (k0_off1 k 0#32) S1x128x256.size (k0_off1_inb k 0)))
    (View.ld x1 (Rect.unit (s := S1x32x256) (k0_off2 k 0#32) S1x1x256.size (k0_off2_inb k 0)))
    (View.ld x0 (Rect.unit (s := S1x4096x256) (k0_off1 k 128#32) S1x128x256.size (k0_off1_inb k 1)))
    (View.ld x1 (Rect.unit (s := S1x32x256) (k0_off2 k 1#32) S1x1x256.size (k0_off2_inb k 1)))
    (View.ld x2 (Rect.unit (s := S4096x256) (k0_off3 k) S256x256.size (k0_off3_inb k))))

/-- The slab trip `k` writes of the first product's array, and all the slabs. -/
def pc1 (k : Fin k0_t1_loop.trips) : View.Piece (Elt F) S64x64x256 .f32 :=
  ⟨Rect.unit (s := S64x64x256) (k0_off4 k) S4x64x256.size (k0_off4_inb k), val1 x0 x1 x2 k⟩
def pcs1 : List (View.Piece (Elt F) S64x64x256 .f32) := loopList (pc1 x0 x1 x2) k0_t1_loop.trips

/-- One trip at any contents. -/
theorem trip1 (X0 : BufTy.Contents (Elt F) arg2.view.ty) (X1 : BufTy.Contents (Elt F) arg3.view.ty) (X2 : BufTy.Contents (Elt F) arg4.view.ty)
    (k : Fin k0_t1_loop.trips) (f : BufTy.Contents (Elt F) arg8.view.ty) :
    (iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg8.view.loc (c : Thread nD τ) ↦[arg8.view.set]{fullShare} f)) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 k PUnit.unit)
          (fun _ => iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg8.view.loc (c : Thread nD τ) ↦[arg8.view.set]{fullShare} (arg8.view.writes (Elt F) f [⟨Rect.unit (s := S64x64x256) (k0_off4 k) S4x64x256.size (k0_off4_inb k),
            k0_pay1 (k0_pay3 (View.readAt (Elt F) arg2.view (Rect.unit (s := S1x4096x256) (k0_off1 k 0#32) S1x128x256.size (k0_off1_inb k 0)).toLoadRect X0)
              (View.readAt (Elt F) arg3.view (Rect.unit (s := S1x32x256) (k0_off2 k 0#32) S1x1x256.size (k0_off2_inb k 0)).toLoadRect X1)
              (View.readAt (Elt F) arg2.view (Rect.unit (s := S1x4096x256) (k0_off1 k 128#32) S1x128x256.size (k0_off1_inb k 1)).toLoadRect X0)
              (View.readAt (Elt F) arg3.view (Rect.unit (s := S1x32x256) (k0_off2 k 1#32) S1x1x256.size (k0_off2_inb k 1)).toLoadRect X1)
              (View.readAt (Elt F) arg4.view (Rect.unit (s := S4096x256) (k0_off3 k) S256x256.size (k0_off3_inb k)).toLoadRect X2))⟩])))) := by
  have hk : k.val < 16 := Nat.lt_of_lt_of_le k.isLt k0_t1_abs.2.1
  unfold k0_t1_body
  iintro ⟨HR2, HR3, HR4, HW⟩
  sl_exec
  sl_step
  sl_close

theorem cover1 : ∀ y : S64x64x256.Idx, ∃ p ∈ pcs1 (F := F) x0 x1 x2, y ∈ p.1.set :=
  View.cover_of_tiledL _ S4x64x256.size (by sl_kernel_rfl)

/-- The loop: it leaves the array at its slabs. -/
theorem loop1 :
    (iprop(owns (c : Thread nD τ) arg2 fullShare x0 ∗ owns (c : Thread nD τ) arg3 fullShare x1 ∗ owns (c : Thread nD τ) arg4 fullShare x2 ∗ (∃ d, owns (c : Thread nD τ) arg8 fullShare d)) : sProp 𝕄G)
      ⊢ wp frame (wpE (defs₀ (F := F)) 𝒱 (c : Thread nD τ) bd) E (Scf.Loop.for k0_t1_loop k0_t1_ok ⟨⟩ (k0_t1_body (F := F) i arg2 harg2 arg3 harg3 arg4 harg4 arg5 harg5 arg6 harg6 arg7 harg7 arg8 harg8))
          (fun _ => iprop(owns (c : Thread nD τ) arg2 fullShare x0 ∗ owns (c : Thread nD τ) arg3 fullShare x1 ∗ owns (c : Thread nD τ) arg4 fullShare x2 ∗ owns (c : Thread nD τ) arg8 fullShare (View.canon (pcs1 x0 x1 x2)))) := by
  unfold owns
  iintro ⟨⟨%f0, %hf0, H0⟩, ⟨%f1, %hf1, H1⟩, ⟨%f2, %hf2, H2⟩, ⟨%d, %f, -, HW⟩⟩
  obtain rfl := harg2.eq_unread hf0; obtain rfl := harg3.eq_unread hf1; obtain rfl := harg4.eq_unread hf2
  iapply (wp_loop_unit frame (wpE (defs₀ (F := F)) 𝒱 (c : Thread nD τ) bd) E _ _ _ k0_t1_ok _ _ (pc1 x0 x1 x2) (fun k L => by
    have h := trip1 (F := F) 𝒱 c bd E i arg2 harg2 arg3 harg3 arg4 harg4 arg5 harg5 arg6 harg6 arg7 harg7 arg8 harg8 (harg2.unread x0) (harg3.unread x1) (harg4.unread x2) k (arg8.view.writes (Elt F) f L)
    simp only [View.readAt_eq_ld, Memref.IsWhole.read_unread] at h
    exact h))
  isplitl [H0 H1 H2 HW]
  · dsimp only
    isplitl [H0]; · iexact H0
    isplitl [H1]; · iexact H1
    isplitl [H2]; · iexact H2
    iexact HW
  iintro %acc Hinv
  dsimp only
  icases Hinv with ⟨H0, H1, H2, HW⟩
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HW
  ipureintro; exact View.read_writes_eq_canon _ _ _ (cover1 x0 x1 x2)

/-! ## The second product: sixteen rows of it a trip -/

/-- The matrix as loaded, and the two slabs of eight rows trip `k` reads. -/
def mat (x3 : Vec F S512x512 .bf16) : Vec F S512x512 .bf16 := View.ld x3 (Rect.unit (s := S512x512) ![0, 0] S512x512.size inb_S512x512_S512x512_0_0)
def slabA (k : Fin k0_t2_loop.trips) : Vec F S64x8x256 .f32 := View.ld t (Rect.unit (s := S64x64x256) (k0_off5 k 0#32) S64x8x256.size (k0_off5_inb k 0))
def slabB (k : Fin k0_t2_loop.trips) : Vec F S64x8x256 .f32 := View.ld t (Rect.unit (s := S64x64x256) (k0_off5 k 8#32) S64x8x256.size (k0_off5_inb k 1))

/-- What a trip makes of them. -/
def val2 (k2 : Vec F S512x512 .bf16) (a b : Vec F S64x8x256 .f32) : FVec F S1x64x16x256 .bf16 :=
  k0_pay2 (k0_pay4 k2 a) (k0_pay5 k2) (k0_pay10 b) (k0_pay11 k2 b) (k0_pay12 k2 b)

/-- The slab trip `k` writes of the block, and all the slabs. -/
def pc2 (k : Fin k0_t2_loop.trips) : View.Piece (Elt F) S1x64x64x256 .bf16 :=
  ⟨Rect.unit (s := S1x64x64x256) (k0_off6 k) S1x64x16x256.size (k0_off6_inb k), val2 (mat x3) (slabA t k) (slabB t k)⟩
def pcs2 : List (View.Piece (Elt F) S1x64x64x256 .bf16) := loopList (pc2 x3 t) k0_t2_loop.trips

/-- One trip at any contents. -/
theorem trip2 (X3 : BufTy.Contents (Elt F) arg5.view.ty) (X8 : BufTy.Contents (Elt F) arg8.view.ty)
    (k : Fin k0_t2_loop.trips) (f : BufTy.Contents (Elt F) arg7.view.ty) :
    (iprop((arg5.view.loc (c : Thread nD τ) ↦[arg5.view.set]{fullShare} X3) ∗ (arg8.view.loc (c : Thread nD τ) ↦[arg8.view.set]{fullShare} X8) ∗ (arg7.view.loc (c : Thread nD τ) ↦[arg7.view.set]{fullShare} f)) : sProp 𝕄G)
      ⊢ wp frame (wpE (defs₀ (F := F)) 𝒱 (c : Thread nD τ) bd) E (k0_t2_body (F := F) i arg2 harg2 arg3 harg3 arg4 harg4 arg5 harg5 arg6 harg6 arg7 harg7 arg8 harg8 k PUnit.unit)
          (fun _ => iprop((arg5.view.loc (c : Thread nD τ) ↦[arg5.view.set]{fullShare} X3) ∗ (arg8.view.loc (c : Thread nD τ) ↦[arg8.view.set]{fullShare} X8) ∗ (arg7.view.loc (c : Thread nD τ) ↦[arg7.view.set]{fullShare} (arg7.view.writes (Elt F) f [⟨Rect.unit (s := S1x64x64x256) (k0_off6 k) S1x64x16x256.size (k0_off6_inb k),
            val2 (View.readAt (Elt F) arg5.view (Rect.unit (s := S512x512) ![0, 0] S512x512.size inb_S512x512_S512x512_0_0).toLoadRect X3)
              (View.readAt (Elt F) arg8.view (Rect.unit (s := S64x64x256) (k0_off5 k 0#32) S64x8x256.size (k0_off5_inb k 0)).toLoadRect X8)
              (View.readAt (Elt F) arg8.view (Rect.unit (s := S64x64x256) (k0_off5 k 8#32) S64x8x256.size (k0_off5_inb k 1)).toLoadRect X8)⟩])))) := by
  have hk : k.val < 4 := Nat.lt_of_lt_of_le k.isLt k0_t2_abs.2.1
  unfold k0_t2_body val2
  iintro ⟨HR5, HR8, HW⟩
  sl_exec
  sl_step
  sl_close

theorem cover2 : ∀ y : S1x64x64x256.Idx, ∃ p ∈ pcs2 (F := F) x3 t, y ∈ p.1.set :=
  View.cover_of_tiledL _ S1x64x16x256.size (by sl_kernel_rfl)

/-- The loop: it leaves the block at its slabs. -/
theorem loop2 :
    (iprop(owns (c : Thread nD τ) arg5 fullShare x3 ∗ owns (c : Thread nD τ) arg8 fullShare t ∗ (∃ d, owns (c : Thread nD τ) arg7 fullShare d)) : sProp 𝕄G)
      ⊢ wp frame (wpE (defs₀ (F := F)) 𝒱 (c : Thread nD τ) bd) E (Scf.Loop.for k0_t2_loop k0_t2_ok ⟨⟩ (k0_t2_body (F := F) i arg2 harg2 arg3 harg3 arg4 harg4 arg5 harg5 arg6 harg6 arg7 harg7 arg8 harg8))
          (fun _ => iprop(owns (c : Thread nD τ) arg5 fullShare x3 ∗ owns (c : Thread nD τ) arg8 fullShare t ∗ owns (c : Thread nD τ) arg7 fullShare (View.canon (pcs2 x3 t)))) := by
  unfold owns
  iintro ⟨⟨%f3, %hf3, H3⟩, ⟨%f8, %hf8, H8⟩, ⟨%d, %f, -, HW⟩⟩
  obtain rfl := harg5.eq_unread hf3; obtain rfl := harg8.eq_unread hf8
  iapply (wp_loop_unit frame (wpE (defs₀ (F := F)) 𝒱 (c : Thread nD τ) bd) E _ _ _ k0_t2_ok _ _ (pc2 x3 t) (fun k L => by
    have h := trip2 (F := F) 𝒱 c bd E i arg2 harg2 arg3 harg3 arg4 harg4 arg5 harg5 arg6 harg6 arg7 harg7 arg8 harg8 (harg5.unread x3) (harg8.unread t) k (arg7.view.writes (Elt F) f L)
    simp only [View.readAt_eq_ld, Memref.IsWhole.read_unread] at h
    exact h))
  isplitl [H3 H8 HW]
  · dsimp only
    isplitl [H3]; · iexact H3
    isplitl [H8]; · iexact H8
    iexact HW
  iintro %acc Hinv
  dsimp only
  icases Hinv with ⟨H3, H8, HW⟩
  isplitl [H3]
  · iexists _; isplitr; · ipureintro; exact harg5.read_unread _
    iexact H3
  isplitl [H8]
  · iexists _; isplitr; · ipureintro; exact harg8.read_unread _
    iexact H8
  iexists _; isplitr; swap; · iexact HW
  ipureintro; exact View.read_writes_eq_canon _ _ _ (cover2 x3 t)

/-! ## The body -/

/-- The block the body leaves. -/
def outBlk : Vec F S1x64x64x256 .bf16 := View.canon (pcs2 x3 (View.canon (pcs1 x0 x1 x2)))

/-- The body: the inputs' buffers stay, the output's holds the block. -/
theorem bodyRun :
    (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d)) : sProp 𝕄G)
      ⊢ wp frame (wpE (defs₀ (F := F)) 𝒱 (c : Thread nD τ) bd) E (cc0_down_out (F := F) i arg2 harg2 arg3 harg3 arg4 harg4 arg5 harg5 arg6 harg6 arg7 harg7 arg8 harg8)
          (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (outBlk x0 x1 x2 x3) ∗ (∃ d, owns (c : Thread nD τ) arg8 fullShare d))) := by
  simp only [cc0_down_out_eq_skeleton]; unfold cc0_down_out_skel
  iintro ⟨H2, H3, H4, H5, H7, H8⟩
  iapply (exec_cut _ _ _ (loop1 (F := F) 𝒱 c bd E i arg2 harg2 arg3 harg3 arg4 harg4 arg5 harg5 arg6 harg6 arg7 harg7 arg8 harg8 x0 x1 x2)) $$ [H2 H3 H4 H8]
  · isplitl [H2]; · iexact H2
    isplitl [H3]; · iexact H3
    isplitl [H4]; · iexact H4
    iexact H8
  iintro %u ⟨H2, H3, H4, H8⟩
  iapply (exec_cut _ _ _ (loop2 (F := F) 𝒱 c bd E i arg2 harg2 arg3 harg3 arg4 harg4 arg5 harg5 arg6 harg6 arg7 harg7 arg8 harg8 x3 (View.canon (pcs1 x0 x1 x2)))) $$ [H5 H7 H8]
  · isplitl [H5]; · iexact H5
    isplitl [H8]; · iexact H8
    iexact H7
  iintro %v ⟨H5, H8, H7⟩
  sl_step
  isplitl [H2]; · iexact H2
  isplitl [H3]; · iexact H3
  isplitl [H4]; · iexact H4
  isplitl [H5]; · iexact H5
  isplitl [H7]; · iexact H7
  iexists _; iexact H8

end Cert.OutIdeal.Conv

end
-- ==== Proof.FrameOut.lean ====
module

public import proofs.«01_k».proof.Proof.ConvertOut
public import Idealize.ShloMosaic.Lib.Claim

/-!
# `OutIdeal` runs, and leaves its arguments

The body's run at every grid point makes the proof data of the pipeline; of it the library's theorem makes the run of the
whole program: the result holds at the end what the blocks of the points leave in it, every argument what it held.
-/

@[expose] public section

set_option maxRecDepth 16384

noncomputable section

namespace Cert.OutIdeal.Conv

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The block the body leaves at point `t`. -/
def outAt (c : Dev nD) (t : Fin cfg0.N) : Vec F S1x64x64x256 .bf16 := outBlk (iblk m c 0 t) (iblk m c 1 t) (iblk m c 2 t) (iblk m c 3 t)

/-- The proof data of the one pipeline: each input's buffer keeps its block, the output's holds the block above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Every input's buffer is left at the point's block. -/
theorem after_in (c : Dev nD) : (∀ t, (dats m 0 c).after 0 t = iblk m c 0 t) ∧ (∀ t, (dats m 0 c).after 1 t = iblk m c 1 t)
    ∧ (∀ t, (dats m 0 c).after 2 t = iblk m c 2 t) ∧ (∀ t, (dats m 0 c).after 3 t = iblk m c 3 t) ∧ ∀ t, (dats m 0 c).after 4 t = iblk m c 4 t := by
  refine ⟨?_, ?_, ?_, ?_, ?_⟩ <;> intro t <;> dsimp only [dats]

/-- The output's at the block above. -/
theorem after0_5 (c : Dev nD) (t : Fin cfg0.N) : (dats m 0 c).after 5 t = outAt m c t := by dsimp only [dats]

/-- What the body is entered with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨h0, h1, h2, h3, h4⟩ := after_in m c
  simp only [before0_0_of m _ (A_eq m c 0) h0, before0_1_of m _ (A_eq m c 1) h1, before0_2_of m _ (A_eq m c 2) h2,
    before0_3_of m _ (A_eq m c 3) h3, before0_4_of m _ (A_eq m c 4) h4]
  rw [show (dats m 0 c).Φ t.succ = (dats m 0 c).Φ t.castSucc from rfl,
    show (dats m 0 c).owesAt () t.succ = (dats m 0 c).owesAt () t.castSucc from rfl,
    h0, h1, h2, h3, h4, after0_5]
  rw [show (dats m 0 c).Φ t.castSucc = Pipeline.ΦA spec0 c from rfl, PhiA0_eq]
  unfold outAt
  iintro ⟨⟨HS, Hg⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H5 HS]
  · iapply (bodyRun Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t))
    isplitl [H0]; · iexact H0
    isplitl [H1]; · iexact H1
    isplitl [H2]; · iexact H2
    isplitl [H3]; · iexact H3
    isplitl [H5]; · iexists _; iexact H5
    iexact HS
  iintro %u ⟨H0, H1, H2, H3, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OutIdeal.Conv

end
-- ==== Proof.TwinOut.lean ====
module

public import proofs.«01_k».proof.Proof.FrameOut
public import proofs.«01_k».proof.Proof.Gen.Out

/-!
# `Out` and `OutIdeal` are the same program

As with `Kernel` and `KernelIdeal`, no line was rewritten; the frame of one is the frame of the other.
-/

@[expose] public section

set_option maxRecDepth 16384

noncomputable section

namespace Cert.Twin

open Idealize.ShloMosaic Idealize.ShloMosaic.TcCoe

variable {F : FTy → Type} [FloatOps F]

set_option maxHeartbeats 4000000 in
/-- The two tables of kernel bodies are equal. -/
theorem out_defs₀_eq : Cert.Out.defs₀ (F := F) = Cert.OutIdeal.defs₀ (F := F) := by
  refine congrArg Defs.onTc (funext fun l => funext fun a => ?_)
  obtain rfl : l = (0 : Fin 1) := Subsingleton.elim (α := Fin 1) _ _
  obtain ⟨t, s⟩ := a
  rfl

/-- So are the tables with the pipeline's own labels. -/
theorem out_defs_eq : Cert.Out.defs (F := F) = Cert.OutIdeal.defs (F := F) :=
  congrArg (Pipeline.defs (Cert.OutIdeal.pcfgs (F := F))) out_defs₀_eq

set_option maxHeartbeats 4000000 in
/-- And so are the host programs. -/
theorem out_main_eq : Cert.Out.main (F := F) = Cert.OutIdeal.main (F := F) := by
  unfold Cert.Out.main Cert.OutIdeal.main
  rfl

end Cert.Twin

namespace Cert.Out.Conv

open Cert.Out
open Idealize.ShloMosaic Idealize.ShloMosaic.TcCoe

variable {F : FTy → Type} [FloatOps F]

/-- The frame: the arguments end unchanged, and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.OutIdeal.Conv.frame (F := F) m ρ
  rw [← Cert.Twin.out_defs_eq, ← Cert.Twin.out_main_eq] at h
  exact h

end Cert.Out.Conv

end
-- ==== Proof.OutBlock.lean ====
module

public import proofs.«01_k».proof.Proof.ConvertOut
public import proofs.«01_k».proof.Proof.BlockValue

/-!
# The block of a weight rotated on its other side, element by element

The first loop leaves the product of each group of 256 rows of the decoded block with the rows of the first matrix, the second
loop the three-part product of those with the second matrix.
-/

@[expose] public section

set_option maxRecDepth 16384

noncomputable section

namespace Cert.OutIdeal.Conv

open Cert.OutIdeal Cert.OutIdeal.Gen
open Idealize.ShloMosaic Idealize.ShloMosaic.TcCoe
open Cert.Proof
open Cert.KernelIdeal.Conv (canon_loop emb_val tri rotCol_lt)

theorem off1_eq : ∀ k, k0_off1 k 0#32 = ![0, 256 * k.val, 0] ∧ k0_off1 k 128#32 = ![0, 256 * k.val + 128, 0] := by decide +kernel
theorem off2_eq : ∀ k, k0_off2 k 0#32 = ![0, 2 * k.val, 0] ∧ k0_off2 k 1#32 = ![0, 2 * k.val + 1, 0] := by decide +kernel
theorem off3_eq : ∀ k, k0_off3 k = ![256 * k.val, 0] := by decide +kernel
theorem off4_eq : ∀ k, k0_off4 k = ![4 * k.val, 0, 0] := by decide +kernel
theorem off5_eq : ∀ k, k0_off5 k 0#32 = ![0, 16 * k.val, 0] ∧ k0_off5 k 8#32 = ![0, 16 * k.val + 8, 0] := by decide +kernel
theorem off6_eq : ∀ k, k0_off6 k = ![0, 0, 16 * k.val, 0] := by decide +kernel

variable (x0 : Vec Ideal S1x4096x256 .fp8e4m3) (x1 : Vec Ideal S1x32x256 .f32) (x2 : Vec Ideal S4096x256 .bf16) (x3 : Vec Ideal S512x512 .bf16)

/-- The decoded block. -/
def dec (n : Fin 4096) (p : Fin 256) : EReal := x0 (ix3 0 n p) * x1 (ix3 0 (⟨n.val / 128, by omega⟩ : Fin 32) p)

theorem row_lt (a : Fin 64) (k : Fin 256) : 256 * (a.val / 4) + k.val < 4096 := by omega

/-- The first product. -/
theorem first_apply (a b : Fin 64) (p : Fin 256) :
    View.canon (pcs1 x0 x1 x2) (ix3 a b p)
      = ∑ k : Fin 256, x2 (ix2 (⟨a.val * 64 + b.val, by omega⟩ : Fin 4096) k) * dec x0 x1 ⟨256 * (a.val / 4) + k.val, row_lt a k⟩ p := by
  refine canon_loop _ _ _ _ (cover1 x0 x1 x2 _) fun k x hx => ?_
  have hv := emb_val (S := S64x64x256) (k0_off4 k) S4x64x256.size (k0_off4_inb k) _ (off4_eq k) x _ hx
  have h0 := hv 0
  have h1 := hv 1
  have h2 := hv 2
  obtain ⟨i, j, q, rfl⟩ : ∃ (i : Fin 4) (j : Fin 64) (q : Fin 256), x = (ix3 i j q : S4x64x256.Idx) := ⟨x 0, x 1, x 2, by funext a; fin_cases a <;> rfl⟩
  replace h0 : a.val = 4 * k.val + i.val := h0
  replace h1 : b.val = 0 + j.val := h1
  replace h2 : p.val = 0 + q.val := h2
  obtain rfl : b = j := Fin.ext (by omega)
  obtain rfl : p = q := Fin.ext (by omega)
  show k0_pay1 (F := Ideal) (k0_pay3 _ _ _ _ _) _ = _
  pointwise [k0_pay1, k0_pay3]
  have hk : a.val / 4 = k.val := by omega
  have hi : a.val * 64 + b.val = 256 * k.val + (i.val * 64 + b.val) := by omega
  refine Eq.trans ?_ (Fin.sum_univ_add (a := 128) (b := 128) fun k : Fin 256 =>
    x2 (ix2 (⟨a.val * 64 + b.val, by omega⟩ : Fin 4096) k) * dec x0 x1 ⟨256 * (a.val / 4) + k.val, row_lt a k⟩ p).symm
  refine congrArg₂ (· + ·) (Finset.sum_congr rfl fun n _ => ?_) (Finset.sum_congr rfl fun n _ => ?_)
  · have e : (256 * k.val + n.val) / 128 = 2 * k.val := by omega
    simp [off1_eq, off2_eq, off3_eq, dec, hk, hi, e, Fin.castAdd, Fin.castLE]
  · have e : (256 * k.val + (128 + n.val)) / 128 = 2 * k.val + 1 := by omega
    have e' : 256 * k.val + 128 + n.val = 256 * k.val + (128 + n.val) := by omega
    simp [off1_eq, off2_eq, off3_eq, dec, hk, hi, e, e', Fin.natAdd]

/-- The second product. -/
theorem second_apply (t : Vec Ideal S64x64x256 .f32) (i j : Fin 64) (p : Fin 256) :
    View.canon (pcs2 x3 t) (ix4 0 i j p) = tri x3 t i j p := by
  refine canon_loop _ _ _ _ (cover2 x3 t _) fun k x hx => ?_
  have hv := emb_val (S := S1x64x64x256) (k0_off6 k) S1x64x16x256.size (k0_off6_inb k) _ (off6_eq k) x _ hx
  have h1 := hv 1
  have h2 := hv 2
  have h3 := hv 3
  obtain ⟨z, i', j', q, rfl⟩ : ∃ (z : Fin 1) (i' : Fin 64) (j' : Fin 16) (q : Fin 256), x = (ix4 z i' j' q : S1x64x16x256.Idx) :=
    ⟨x 0, x 1, x 2, x 3, by funext a; fin_cases a <;> rfl⟩
  obtain rfl : z = 0 := Subsingleton.elim _ _
  replace h1 : i.val = 0 + i'.val := h1
  replace h2 : j.val = 16 * k.val + j'.val := h2
  replace h3 : p.val = 0 + q.val := h3
  obtain rfl : i = i' := Fin.ext (by omega)
  obtain rfl : p = q := Fin.ext (by omega)
  show val2 (F := Ideal) _ _ _ _ = _
  unfold val2 slabA slabB mat
  pointwise [k0_pay2, k0_pay4, k0_pay5, k0_pay6, k0_pay7, k0_pay8, k0_pay9, k0_pay10, k0_pay11, k0_pay12]
  split
  · have hk : 8 * (j.val / 8) = 16 * k.val := by omega
    have hj : j.val % 8 = j'.val := by omega
    simp [off5_eq, tri, hk, hj]
  · have hk : 8 * (j.val / 8) = 16 * k.val + 8 := by omega
    have hj : j.val % 8 = j'.val - 8 := by omega
    simp [off5_eq, tri, hk, hj]

end Cert.OutIdeal.Conv

end
-- ==== Proof.Finite.lean ====
module

public import proofs.«01_k».proof.Pre_finite
public import proofs.«01_k».proof.Proof.Row
public import Idealize.ShloMosaic.Lib.ReduceAll

/-!
# Real arrays

The precondition of the second value claim says that four arrays hold real numbers; products and sums of those are real.
-/

@[expose] public section

set_option maxRecDepth 16384

noncomputable section

namespace Cert.Proof

open Idealize.ShloMosaic

/-- A number that is not infinite. -/
def IsReal (x : EReal) : Prop := ∃ r : ℝ, x = (r : EReal)

theorem IsReal.mul {x y : EReal} : IsReal x → IsReal y → IsReal (x * y)
  | ⟨r, hr⟩, ⟨s, hs⟩ => ⟨r * s, by rw [hr, hs, EReal.coe_mul]⟩

theorem IsReal.add {x y : EReal} : IsReal x → IsReal y → IsReal (x + y)
  | ⟨r, hr⟩, ⟨s, hs⟩ => ⟨r + s, by rw [hr, hs, EReal.coe_add]⟩

theorem IsReal.sum {ι : Type*} (s : Finset ι) (f : ι → EReal) (h : ∀ i, IsReal (f i)) : IsReal (s.sum f) := by
  classical
  induction s using Finset.induction_on with
  | empty => exact ⟨0, by simp⟩
  | insert a s ha ih => rw [Finset.sum_insert ha]; exact (h a).add ih

theorem IsReal.not_inf {x : EReal} : IsReal x → ¬(x = ⊤ ∨ x = ⊥)
  | ⟨r, hr⟩, h => by
    subst hr
    exact h.elim (EReal.coe_ne_top r) (EReal.coe_ne_bot r)

theorem isReal_of_abs {x : EReal} (h : max x (-x) < ⊤) : IsReal x := by
  have h1 : x ≠ ⊤ := ne_of_lt (lt_of_le_of_lt (le_max_left _ _) h)
  have h2 : x ≠ ⊥ := fun e => by rw [e] at h; simp at h
  exact ⟨x.toReal, (EReal.coe_toReal h1 h2).symm⟩

/-- The side conditions of the precondition. -/
instance preFacts : Cert.Pre_finite.Facts := by constructor <;> decide

section

open Cert.Pre_finite

instance : Subsingleton S_.Idx := ⟨fun a b => funext fun i => i.elim0⟩

/-- An array all of whose magnitudes are below infinity. -/
theorem all_real {S : Shape} {axes : List (Fin S.rank)} (x : FVec Ideal S .f32) (y : FVec Ideal S .f32) (hy : ∀ i, y i = Ideal.ofBits .f32 2139095040#32)
    (init : IVec S_ 1) (h : S.ReducesTo axes S_) (hu : 0 < S_.numel) (j : S_.Idx)
    (e : Host.reduce IntOp.andi (cmpf .olt (Host.absf x) y) init h hu j = 1#1) (i : S.Idx) : IsReal (x i) := by
  have e1 := Host.reduce_andi_all _ _ h hu j e i
  replace e1 : BitVec.ofBool (decide (max (x i) (-(x i)) < y i)) = 1#1 := e1
  rw [hy, inf_eq] at e1
  refine isReal_of_abs ?_
  by_contra hn
  rw [decide_eq_false hn] at e1
  exact absurd e1 (by decide)

theorem andi_one {a b : IVec S_ 1} {j : S_.Idx} (h : andi a b j = 1#1) : a j = 1#1 ∧ b j = 1#1 := by
  have h' : a j &&& b j = 1#1 := h
  generalize a j = u at *
  generalize b j = v at *
  revert u v
  decide

/-- What the precondition says. -/
theorem pre_real (a0 : FVec Ideal S3x4096x3584 .f32) (a1 : FVec Ideal S3x32x28 .f32) (a2 : FVec Ideal S4096 .f32) (a3 : FVec Ideal S64x64 .bf16)
    (a4 : FVec Ideal S64x64 .bf16) (a5 : FVec Ideal S128x128 .bf16) (h : fn (F := Ideal) a0 a1 a2 a3 a4 a5 = fun _ => 1#1) :
    (∀ i, IsReal (a0 i)) ∧ (∀ i, IsReal (a1 i)) ∧ (∀ i, IsReal (a2 i)) ∧ ∀ i, IsReal (a4 i) := by
  have e := congrFun h (fun i => i.elim0)
  unfold fn fn_part1 at e
  obtain ⟨e, e4⟩ := andi_one e
  obtain ⟨e, e2⟩ := andi_one e
  obtain ⟨e0, e1⟩ := andi_one e
  exact ⟨all_real _ _ (fun _ => rfl) _ _ _ _ e0, all_real _ _ (fun _ => rfl) _ _ _ _ e1, all_real _ _ (fun _ => rfl) _ _ _ _ e2,
    all_real (extf .f32 a4 _) _ (fun _ => rfl) _ _ _ _ e4⟩

end

end Cert.Proof

end
-- ==== Proof.OutValue.lean ====
module

public import proofs.«01_k».proof.Proof.FrameOut
public import proofs.«01_k».proof.Proof.OutBlock
public import proofs.«01_k».proof.Proof.Finite
public import Idealize.ShloMosaic.Lib.Pipeline.ValueKit

/-!
# The array `OutIdeal` leaves

The body's two products are the rotation of each column of the decoded and signed weight, where its numbers are real; the blocks
tile the result.
-/

@[expose] public section

set_option maxRecDepth 16384

noncomputable section

namespace Cert.Proof

open Idealize.ShloMosaic

/-- A column of 4096 numbers, as a matrix of 64 by 64, multiplied by a factor from each side and scaled by 1/64. -/
def rotCol (X : Fin 64 → Fin 64 → EReal) (ha hb : Fin 64 → Fin 64 → EReal) (i j : Fin 64) : EReal :=
  (∑ a : Fin 64, ha a i * ∑ b : Fin 64, hb b j * X a b) * Ideal.ofBits .f32 1015021568#32

end Cert.Proof

namespace Cert.OutIdeal.Conv

open Cert.OutIdeal Cert.OutIdeal.Gen
open Idealize.ShloMosaic Idealize.ShloMosaic.TcCoe
open Idealize.ShloMosaic.Pipeline (Dat)
open Cert.Proof
open Cert.KernelIdeal.Conv (IsKronR tri long_eq)

section Block

variable (x0 : Vec Ideal S1x4096x256 .fp8e4m3) (x1 : Vec Ideal S1x32x256 .f32) (x2 : Vec Ideal S4096x256 .bf16) (x3 : Vec Ideal S512x512 .bf16)
  (ha hb : Fin 64 → Fin 64 → EReal) (sg : Fin 4096 → EReal)

/-- The first matrix: a factor repeated along the diagonal, each column times its sign. -/
def IsSigned : Prop := ∀ (n : Fin 4096) (k : Fin 256), x2 (ix2 n k)
  = (if n.val % 256 / 64 = k.val / 64 then 1 else 0) * hb ⟨k.val % 64, by omega⟩ ⟨n.val % 64, by omega⟩ * sg ⟨256 * (n.val / 256) + k.val, by omega⟩

/-- A number of the decoded and signed block. -/
def sdec (p : Fin 256) (a b : Fin 64) : EReal := dec x0 x1 ⟨a.val * 64 + b.val, by omega⟩ p * sg ⟨a.val * 64 + b.val, by omega⟩

/-- The first product, its zero terms left out. -/
theorem first_eq (h2 : IsSigned x2 hb sg) (a j : Fin 64) (p : Fin 256) :
    View.canon (pcs1 x0 x1 x2) (ix3 a j p) = ∑ b : Fin 64, hb b j * sdec x0 x1 sg p a b := by
  rw [first_apply, sum_pairs 4 64 rfl]
  rw [Finset.sum_eq_single (⟨a.val % 4, by omega⟩ : Fin 4)]
  · refine Finset.sum_congr rfl fun b _ => ?_
    rw [h2, if_pos (by simp only; omega), one_mul, sdec, mul_comm (dec x0 x1 _ p), ← mul_assoc]
    refine congrArg₂ (· * ·) (congrArg₂ (· * ·) (congrArg₂ _ (Fin.ext ?_) (Fin.ext ?_)) (congrArg _ (Fin.ext ?_))) (congrArg (dec x0 x1 · p) (Fin.ext ?_)) <;> simp only <;> omega
  · intro i _ hi
    refine Finset.sum_eq_zero fun k _ => ?_
    have hi' : i.val ≠ a.val % 4 := fun h => hi (Fin.ext h)
    rw [h2, if_neg (by simp only; omega), zero_mul, zero_mul, zero_mul]
  · intro h; exact absurd (Finset.mem_univ _) h

/-- The block left, where the first product is real. -/
theorem block_eq (h2 : IsSigned x2 hb sg) (h3 : IsKronR x3 ha) (i j : Fin 64) (p : Fin 256)
    (hr : ∀ a, IsReal (∑ b : Fin 64, hb b j * sdec x0 x1 sg p a b)) :
    outBlk x0 x1 x2 x3 (ix4 0 i j p) = rotCol (sdec x0 x1 sg p) ha hb i j := by
  rw [outBlk, second_apply, tri]
  set t := View.canon (pcs1 x0 x1 x2) with ht
  have e : ∀ a, t (ix3 a j p) = ∑ b : Fin 64, hb b j * sdec x0 x1 sg p a b := fun a => first_eq x0 x1 x2 hb sg h2 a j p
  have z : ∀ a, t (ix3 a j p) - t (ix3 a j p) = 0 := fun a => sub_self_real (by rw [e]; exact (hr a).not_inf)
  rw [long_eq x3 ha h3 _ _ fun a j => t (ix3 a j p), long_eq x3 ha h3 _ _ fun a j => t (ix3 a j p) - t (ix3 a j p),
    long_eq x3 ha h3 _ _ fun a j => t (ix3 a j p) - t (ix3 a j p) - (t (ix3 a j p) - t (ix3 a j p))]
  simp only [z, sub_zero, mul_zero, Finset.sum_const_zero, add_zero]
  rw [rotCol, inv64_eq, sum_mul_real _ _ _ (by norm_num)]
  exact Finset.sum_congr rfl fun a _ => by rw [e, mul_assoc, mul_assoc, mul_comm (_ : EReal) ((1 / 64 : ℝ) : EReal)]

end Block

variable (m : (ℓ : Loc nD τ sig) → Buf (Elt Ideal) ℓ)

/-! ## The arguments, as arrays, and the operands the host makes -/

abbrev A0 (c : Dev nD) : Vec Ideal S3x4096x3584 .f32 := m ((c : Thread nD τ).loc main_arg0)
abbrev A1 (c : Dev nD) : Vec Ideal S3x32x28 .f32 := m ((c : Thread nD τ).loc main_arg1)
abbrev A2 (c : Dev nD) : Vec Ideal S4096 .f32 := m ((c : Thread nD τ).loc main_arg2)
abbrev A3 (c : Dev nD) : Vec Ideal S64x64 .bf16 := m ((c : Thread nD τ).loc main_arg3)
abbrev A4 (c : Dev nD) : Vec Ideal S64x64 .bf16 := m ((c : Thread nD τ).loc main_arg4)

theorem entry_codes (c : Dev nD) (l : Fin 3) (n : Fin 4096) (q : Fin 3584) : V m c main_v0 (ix3 l n q) = A0 m c (ix3 l n q) := by
  entry_read
  pointwise

theorem entry_signed (c : Dev nD) (n : Fin 4096) (k : Fin 256) : V m c main_v40 (ix2 n k)
    = (if n.val % 256 / 64 = k.val / 64 then (1 : EReal) else 0) * A4 m c (ix2 (⟨k.val % 64, by omega⟩ : Fin 64) (⟨n.val % 64, by omega⟩ : Fin 64))
      * A2 m c (ix1 (⟨256 * (n.val / 256) + k.val, by omega⟩ : Fin 4096)) := by
  rw [← eye_eq _ _ (by omega) (by omega)]
  entry_read
  pointwise
  refine congrArg₂ (· * ·) (congrArg₂ (· * ·) rfl ?_) ?_
  · exact congrArg (fun r => A4 m c (ix2 (⟨k.val % 64, by omega⟩ : Fin 64) r)) (Fin.ext (by simp only; omega))
  · exact congrArg (fun r => A2 m c (ix1 r)) (Fin.ext (by simp only; omega))

theorem entry_kronR (c : Dev nD) (a b : Fin 512) : V m c main_v32 (ix2 a b)
    = Ideal.div (A3 m c (ix2 (⟨b.val / 8, by omega⟩ : Fin 64) (⟨a.val / 8, by omega⟩ : Fin 64))) (Ideal.ofBits .f32 1115684864#32)
      * (if a.val % 8 = b.val % 8 then (1 : EReal) else 0) := by
  rw [← eye_eq _ _ (by omega) (by omega)]
  entry_read
  pointwise

theorem entry_scale (c : Dev nD) (l : Fin 3) (k : Fin 32) (q : Fin 3584) : V m c main_v56 (ix3 l k q)
    = A1 m c (ix3 l k (⟨q.val / 128, by omega⟩ : Fin 28)) := by
  entry_read
  pointwise

/-! ## The blocks of a grid point -/

theorem idx : ∀ t : Fin cfg0.N, win0_0.index t = ![(grid0.coords t 0).val, 0, (grid0.coords t 1).val]
    ∧ win0_1.index t = ![(grid0.coords t 0).val, 0, (grid0.coords t 1).val] ∧ win0_2.index t = ![0, 0] ∧ win0_3.index t = ![0, 0]
    ∧ win0_5.index t = ![(grid0.coords t 0).val, 0, 0, (grid0.coords t 1).val] :=
  (by decide +kernel : ∀ t : Fin grid0.N, _)

/-- The layer and the column block of a grid point. -/
def lay (t : Fin cfg0.N) : Fin 3 := grid0.coords t 0
def cb (t : Fin cfg0.N) : Fin 14 := grid0.coords t 1

/-- The array's column a block's column is. -/
def colOf (t : Fin cfg0.N) (p : Fin 256) : Fin 3584 := ⟨(cb t).val * 256 + p.val, by have := (cb t).isLt; omega⟩

theorem blk0 (c : Dev nD) (t : Fin cfg0.N) (n : Fin 4096) (p : Fin 256) :
    iblk m c 0 t (ix3 0 n p) = V m c main_v0 (ix3 (lay t) n (colOf t p)) := by
  blk_ext [iblk, idx t, lay, cb, colOf]

theorem blk1 (c : Dev nD) (t : Fin cfg0.N) (k : Fin 32) (p : Fin 256) :
    iblk m c 1 t (ix3 0 k p) = V m c main_v56 (ix3 (lay t) k (colOf t p)) := by
  blk_ext [iblk, idx t, lay, cb, colOf]

theorem blk2 (c : Dev nD) (t : Fin cfg0.N) (n : Fin 4096) (k : Fin 256) : iblk m c 2 t (ix2 n k) = V m c main_v40 (ix2 n k) := by
  blk_ext [iblk, idx t, lay, cb, colOf]

theorem blk3 (c : Dev nD) (t : Fin cfg0.N) (a b : Fin 512) : iblk m c 3 t (ix2 a b) = V m c main_v32 (ix2 a b) := by
  blk_ext [iblk, idx t, lay, cb, colOf]

theorem signed (c : Dev nD) (t : Fin cfg0.N) : IsSigned (iblk m c 2 t) (fun b j => A4 m c (ix2 b j)) fun n => A2 m c (ix1 n) := fun n k => by
  rw [blk2, entry_signed]

theorem kronR (c : Dev nD) (t : Fin cfg0.N) : IsKronR (iblk m c 3 t) fun a i => A3 m c (ix2 a i) := fun a b => by
  rw [blk3, entry_kronR]

/-! ## The array after the run -/

/-- A column of the weight: the code times its block's scale, times the sign. -/
def wcol (a0 : Vec Ideal S3x4096x3584 .f32) (a1 : Vec Ideal S3x32x28 .f32) (a2 : Vec Ideal S4096 .f32) (l : Fin 3) (q : Fin 3584) (a b : Fin 64) : EReal :=
  a0 (ix3 l (⟨a.val * 64 + b.val, by omega⟩ : Fin 4096) q) * a1 (ix3 l (⟨(a.val * 64 + b.val) / 128, by omega⟩ : Fin 32) (⟨q.val / 128, by omega⟩ : Fin 28))
    * a2 (ix1 (⟨a.val * 64 + b.val, by omega⟩ : Fin 4096))

/-- The weight with every column rotated. -/
def G (a0 : Vec Ideal S3x4096x3584 .f32) (a1 : Vec Ideal S3x32x28 .f32) (a2 : Vec Ideal S4096 .f32) (a3 a4 : Vec Ideal S64x64 .bf16) : Vec Ideal S3x64x64x3584 .bf16 :=
  fun y => rotCol (wcol a0 a1 a2 (y 0) (y 3)) (fun a i => a3 (ix2 a i)) (fun b j => a4 (ix2 b j)) (y 1) (y 2)

/-- The body's numbers are the weight's column. -/
theorem sdec_eq (c : Dev nD) (t : Fin cfg0.N) (p : Fin 256) :
    sdec (iblk m c 0 t) (iblk m c 1 t) (fun n => A2 m c (ix1 n)) p = wcol (A0 m c) (A1 m c) (A2 m c) (lay t) (colOf t p) := by
  funext a b
  rw [sdec, wcol, dec, blk0, blk1, entry_codes, entry_scale]

/-- The block a point leaves. -/
theorem outAt_eq (c : Dev nD) (h0 : ∀ i, IsReal (A0 m c i)) (h1 : ∀ i, IsReal (A1 m c i)) (h2 : ∀ i, IsReal (A2 m c i)) (h4 : ∀ i, IsReal (A4 m c i))
    (t : Fin cfg0.N) (i j : Fin 64) (p : Fin 256) :
    outAt m c t (ix4 0 i j p) = G (A0 m c) (A1 m c) (A2 m c) (A3 m c) (A4 m c) (ix4 (lay t) i j (colOf t p)) := by
  rw [outAt, block_eq _ _ _ _ _ _ _ (signed m c t) (kronR m c t), sdec_eq]
  · rfl
  · intro a
    rw [sdec_eq]
    exact IsReal.sum _ _ fun b => (h4 _).mul (((h0 _).mul (h1 _)).mul (h2 _))

/-- The array after the run. -/
theorem final5 (c : Dev nD) (h0 : ∀ i, IsReal (A0 m c i)) (h1 : ∀ i, IsReal (A1 m c i)) (h2 : ∀ i, IsReal (A2 m c i)) (h4 : ∀ i, IsReal (A4 m c i)) :
    (dats m 0 c).arrAt 5 cfg0.N = G (A0 m c) (A1 m c) (A2 m c) (A3 m c) (A4 m c) := by
  refine (dats m 0 c).arrAt_eq_of_covers 5 _ (by decide +kernel) fun t _ y => ?_
  blk_simp
  rw [after0_5]
  have e := outAt_eq m c h0 h1 h2 h4 t
  revert e
  generalize G (A0 m c) (A1 m c) (A2 m c) (A3 m c) (A4 m c) = W
  generalize outAt m c t = X
  intro e
  idx_vars y
  obtain rfl : y0 = 0 := Subsingleton.elim _ _
  rw [e y1 y2 y3]
  blk_ext [idx t, lay, cb, colOf]

end Cert.OutIdeal.Conv

end
-- ==== Proof.PlainOut.lean ====
module

public import proofs.«01_k».proof.Proof.OutValue
public import proofs.«01_k».proof.Proof.Gen.OutReferenceIdeal.Frame

/-!
# The array the second reference leaves

Its one payload, element by element, over the arrays it is given.
-/

@[expose] public section

set_option maxRecDepth 16384

noncomputable section

namespace Cert.OutReferenceIdeal.Plain

open Cert.OutReferenceIdeal Cert.OutReferenceIdeal.Gen
open Idealize.ShloMosaic Idealize.ShloMosaic.TcCoe
open Idealize.ShloMosaic.Pipeline (Dat)
open Cert.Proof
open Cert.OutIdeal.Conv (G wcol)

/-- The payload at an index. -/
theorem pay_apply (x0 : Vec Ideal S3x4096x3584 .fp8e4m3) (x1 : Vec Ideal S3x32x28 .f32) (x2 : Vec Ideal S4096 .f32) (x3 x4 : Vec Ideal S64x64 .bf16)
    (l : Fin 3) (i j : Fin 64) (q : Fin 3584) :
    out0_5 x0 x1 x2 x3 x4 (ix4 l i j q) = rotCol (wcol x0 x1 x2 l q) (fun a i => x3 (ix2 a i)) (fun b j => x4 (ix2 b j)) i j := by
  unfold out0_5
  rw [View.canon_unit_zero (funext fun a => by fin_cases a <;> rfl)]
  simp only [rotCol, wcol]
  pointwise [k0_pay1]
  simp only [Nat.div_add_mod']

variable (m : (ℓ : Loc nD τ sig) → Buf (Elt Ideal) ℓ)

abbrev A0 (c : Dev nD) : Vec Ideal S3x4096x3584 .f32 := m ((c : Thread nD τ).loc main_arg0)
abbrev A1 (c : Dev nD) : Vec Ideal S3x32x28 .f32 := m ((c : Thread nD τ).loc main_arg1)
abbrev A2 (c : Dev nD) : Vec Ideal S4096 .f32 := m ((c : Thread nD τ).loc main_arg2)
abbrev A3 (c : Dev nD) : Vec Ideal S64x64 .bf16 := m ((c : Thread nD τ).loc main_arg3)
abbrev A4 (c : Dev nD) : Vec Ideal S64x64 .bf16 := m ((c : Thread nD τ).loc main_arg4)

/-- Every window's block is its whole array. -/
theorem idx : ∀ t : Fin cfg0.N, win0_0.index t = ![0, 0, 0] ∧ win0_1.index t = ![0, 0, 0] ∧ win0_2.index t = ![0] ∧ win0_3.index t = ![0, 0]
    ∧ win0_4.index t = ![0, 0] ∧ win0_5.index t = ![0, 0, 0, 0] :=
  (by decide +kernel : ∀ t : Fin grid0.N, _)

theorem blk0 (c : Dev nD) (t : Fin cfg0.N) (l : Fin 3) (n : Fin 4096) (q : Fin 3584) : iblk m c 0 t (ix3 l n q) = V m c main_v0 (ix3 l n q) := by
  blk_ext [iblk, idx t]

theorem entry_codes (c : Dev nD) (l : Fin 3) (n : Fin 4096) (q : Fin 3584) : V m c main_v0 (ix3 l n q) = A0 m c (ix3 l n q) := by
  entry_read
  pointwise

theorem blk1 (c : Dev nD) (t : Fin cfg0.N) (l : Fin 3) (k : Fin 32) (q : Fin 28) : iblk m c 1 t (ix3 l k q) = A1 m c (ix3 l k q) := by
  rw [A1, ← V_main_arg1 m c]
  blk_ext [iblk, idx t]

theorem blk2 (c : Dev nD) (t : Fin cfg0.N) (n : Fin 4096) : iblk m c 2 t (ix1 n) = A2 m c (ix1 n) := by
  rw [A2, ← V_main_arg2 m c]
  blk_ext [iblk, idx t]

theorem blk3 (c : Dev nD) (t : Fin cfg0.N) (a i : Fin 64) : iblk m c 3 t (ix2 a i) = A3 m c (ix2 a i) := by
  rw [A3, ← V_main_arg3 m c]
  blk_ext [iblk, idx t]

theorem blk4 (c : Dev nD) (t : Fin cfg0.N) (b j : Fin 64) : iblk m c 4 t (ix2 b j) = A4 m c (ix2 b j) := by
  rw [A4, ← V_main_arg4 m c]
  blk_ext [iblk, idx t]

/-- The block the point leaves. -/
theorem out_eq (c : Dev nD) (t : Fin cfg0.N) (l : Fin 3) (i j : Fin 64) (q : Fin 3584) :
    out0_5 (iblk m c 0 t) (iblk m c 1 t) (iblk m c 2 t) (iblk m c 3 t) (iblk m c 4 t) (ix4 l i j q)
      = G (A0 m c) (A1 m c) (A2 m c) (A3 m c) (A4 m c) (ix4 l i j q) := by
  rw [pay_apply]
  show rotCol _ _ _ i j = rotCol (wcol (A0 m c) (A1 m c) (A2 m c) l q) (fun a i => A3 m c (ix2 a i)) (fun b j => A4 m c (ix2 b j)) i j
  simp only [rotCol, wcol]
  refine congrArg (· * _) (Finset.sum_congr rfl fun a _ => ?_)
  rw [blk3]
  refine congrArg _ (Finset.sum_congr rfl fun b _ => ?_)
  rw [blk4, blk0, blk1, blk2, entry_codes]

/-- The array after the run. -/
theorem final5 (c : Dev nD) : (dats m 0 c).arrAt 5 cfg0.N = G (A0 m c) (A1 m c) (A2 m c) (A3 m c) (A4 m c) := by
  refine (dats m 0 c).arrAt_eq_of_covers 5 _ (by decide +kernel) fun t _ y => ?_
  blk_simp
  rw [after0_5]
  have e := out_eq m c t
  revert e
  generalize G (A0 m c) (A1 m c) (A2 m c) (A3 m c) (A4 m c) = W
  generalize out0_5 (iblk m c 0 t) (iblk m c 1 t) (iblk m c 2 t) (iblk m c 3 t) (iblk m c 4 t) = X
  intro e
  idx_vars y
  rw [e y0 y1 y2 y3]
  blk_ext [idx t]

end Cert.OutReferenceIdeal.Plain

end
-- ==== Proof.AlgebraicOut.lean ====
module

public import proofs.«01_k».proof.Defs
public import proofs.«01_k».proof.Proof.PlainOut

/-!
# The second kernel computes its reference

Where the codes, the scales, the signs and the second factor are real numbers, the run of `OutIdeal` and that of
`OutReferenceIdeal` leave the same array.
-/

@[expose] public section

set_option maxRecDepth 16384

noncomputable section

namespace Cert.OutIdeal.Conv

open Idealize.ShloMosaic Idealize.ShloMosaic.TcCoe Idealize.SL.Sem
open Cert.Proof

/-- On the same real arguments the kernel's array is the reference's. -/
theorem algebraic : Cert.algebraic_OutIdeal_OutReferenceIdeal_pre_finite (hOutIdeal := Cert.OutIdeal.Gen.facts)
    (hOutReferenceIdeal := Cert.OutReferenceIdeal.Gen.facts) (hPre_finite := preFacts) := by
  intro m g m' g' hpre hargs
  refine ⟨fun c => G (A0 m c) (A1 m c) (A2 m c) (A3 m c) (A4 m c), ?_, ?_⟩
  · refine (θ_run _ _ _).mono (fun r h c => ?_) (θ_run_and (run_main m g) (unchanged m g))
    obtain ⟨h0, h1, h2, h4⟩ := pre_real _ _ _ _ _ _ (hpre c)
    exact ⟨((h.1 c).1 5).trans (final5 m c h0 h1 h2 h4), h.2 c⟩
  · refine (θ_run _ _ _).mono (fun r h c => ?_) (θ_run_and (Cert.OutReferenceIdeal.Gen.run_main m' g') (Cert.OutReferenceIdeal.Gen.frame m' g'))
    obtain ⟨e0, e1, e2, e3, e4, -⟩ := hargs c
    have h5 := ((h.1 c).1 5).trans (Cert.OutReferenceIdeal.Plain.final5 m' c)
    rw [Cert.OutReferenceIdeal.Plain.A0, Cert.OutReferenceIdeal.Plain.A1, Cert.OutReferenceIdeal.Plain.A2, Cert.OutReferenceIdeal.Plain.A3,
      Cert.OutReferenceIdeal.Plain.A4, e0, e1, e2, e3, e4] at h5
    exact ⟨h5, h.2.1 c⟩

end Cert.OutIdeal.Conv

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Twin
public import proofs.«01_k».proof.Proof.FrameKernelIdeal
public import proofs.«01_k».proof.Proof.Algebraic
public import proofs.«01_k».proof.Proof.Gen.Out
public import proofs.«01_k».proof.Proof.Gen.OutIdeal
public import proofs.«01_k».proof.Proof.Gen.OutReferenceIdeal
public import proofs.«01_k».proof.Proof.Gen.OutReferenceIdeal.Frame
public import proofs.«01_k».proof.Proof.TwinOut
public import proofs.«01_k».proof.Proof.AlgebraicOut
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Out.Gen.facts, Cert.OutIdeal.Gen.facts, Cert.OutReferenceIdeal.Gen.facts, preFacts,
    fun m g _ => Cert.Kernel.Conv.frame m g, fun m g _ => Cert.KernelIdeal.Conv.frame m g,
    fun m g _ => Cert.ReferenceIdeal.Gen.frame m g,
    fun m g _ => Cert.Out.Conv.frame m g, fun m g _ => Cert.OutIdeal.Conv.frame m g, fun m g _ => Cert.OutIdeal.Conv.frame m g,
    fun m g _ => Cert.OutReferenceIdeal.Gen.frame m g, fun m g _ => Cert.OutReferenceIdeal.Gen.frame m g,
    trivial, Cert.KernelIdeal.Conv.algebraic, trivial, Cert.OutIdeal.Conv.algebraic⟩

end Cert.Proof

end
